-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_QUp (m : (ℓ : Loc Cert.QUp.nD Cert.QUp.τ Cert.QUp.sig) → Buf (Elt Bits) ℓ) : Prop :=
  True

def Pre_QUpIdeal (m : (ℓ : Loc Cert.QUpIdeal.nD Cert.QUpIdeal.τ Cert.QUpIdeal.sig) → Buf (Elt Ideal) ℓ) : Prop :=
  True

def Pre_QUpRefIdeal (m : (ℓ : Loc Cert.QUpRefIdeal.nD Cert.QUpRefIdeal.τ Cert.QUpRefIdeal.sig) → Buf (Elt Ideal) ℓ) : Prop :=
  True

def Pre_KvUp (m : (ℓ : Loc Cert.KvUp.nD Cert.KvUp.τ Cert.KvUp.sig) → Buf (Elt Bits) ℓ) : Prop :=
  True

def Pre_KvUpIdeal (m : (ℓ : Loc Cert.KvUpIdeal.nD Cert.KvUpIdeal.τ Cert.KvUpIdeal.sig) → Buf (Elt Ideal) ℓ) : Prop :=
  True

def Pre_KvUpRefIdeal (m : (ℓ : Loc Cert.KvUpRefIdeal.nD Cert.KvUpRefIdeal.τ Cert.KvUpRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3)
      ∧ r.2.mem ((c.tc : Thread Cert.FfnUp.nD Cert.FfnUp.τ).loc Cert.FfnUp.main_arg4) = m ((c.tc : Thread Cert.FfnUp.nD Cert.FfnUp.τ).loc Cert.FfnUp.main_arg4))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
      ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3)
      ∧ r.2.mem ((c.tc : Thread Cert.FfnUpRefIdeal.nD Cert.FfnUpRefIdeal.τ).loc Cert.FfnUpRefIdeal.main_arg4) = m ((c.tc : Thread Cert.FfnUpRefIdeal.nD Cert.FfnUpRefIdeal.τ).loc Cert.FfnUpRefIdeal.main_arg4))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_QUp [hQUp : Cert.QUp.Facts] : Prop :=
  ∀ (m : (ℓ : Loc Cert.QUp.nD Cert.QUp.τ Cert.QUp.sig) → Buf (Elt Bits) ℓ) (g : Dev Cert.QUp.nD → PrngReg), Pre_QUp m →
    θ_run (Cert.QUp.defs (F := Bits)) (onTc (τ := Cert.QUp.τ) (Cert.QUp.main (F := Bits))) ⟨m, fun _ => 0, g⟩ (fun r => (∀ c : Dev Cert.QUp.nD,
      r.2.mem ((c.tc : Thread Cert.QUp.nD Cert.QUp.τ).loc Cert.QUp.main_arg0) = m ((c.tc : Thread Cert.QUp.nD Cert.QUp.τ).loc Cert.QUp.main_arg0)
      ∧ r.2.mem ((c.tc : Thread Cert.QUp.nD Cert.QUp.τ).loc Cert.QUp.main_arg1) = m ((c.tc : Thread Cert.QUp.nD Cert.QUp.τ).loc Cert.QUp.main_arg1)
      ∧ r.2.mem ((c.tc : Thread Cert.QUp.nD Cert.QUp.τ).loc Cert.QUp.main_arg2) = m ((c.tc : Thread Cert.QUp.nD Cert.QUp.τ).loc Cert.QUp.main_arg2))
      ∧ r.2.sem = fun _ => 0)

def quiescent_QUpIdeal [hQUpIdeal : Cert.QUpIdeal.Facts] : Prop :=
  ∀ (m : (ℓ : Loc Cert.QUpIdeal.nD Cert.QUpIdeal.τ Cert.QUpIdeal.sig) → Buf (Elt Ideal) ℓ) (g : Dev Cert.QUpIdeal.nD → PrngReg), Pre_QUpIdeal m →
    θ_run (Cert.QUpIdeal.defs (F := Ideal)) (onTc (τ := Cert.QUpIdeal.τ) (Cert.QUpIdeal.main (F := Ideal))) ⟨m, fun _ => 0, g⟩ (fun r => (∀ c : Dev Cert.QUpIdeal.nD,
      r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
      ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1)
      ∧ r.2.mem ((c.tc : Thread Cert.QUpIdeal.nD Cert.QUpIdeal.τ).loc Cert.QUpIdeal.main_arg2) = m ((c.tc : Thread Cert.QUpIdeal.nD Cert.QUpIdeal.τ).loc Cert.QUpIdeal.main_arg2))
      ∧ r.2.sem = fun _ => 0)

def quiescent_QUpRefIdeal [hQUpRefIdeal : Cert.QUpRefIdeal.Facts] : Prop :=
  ∀ (m : (ℓ : Loc Cert.QUpRefIdeal.nD Cert.QUpRefIdeal.τ Cert.QUpRefIdeal.sig) → Buf (Elt Ideal) ℓ) (g : Dev Cert.QUpRefIdeal.nD → PrngReg), Pre_QUpRefIdeal m →
    θ_run (Cert.QUpRefIdeal.defs (F := Ideal)) (onTc (τ := Cert.QUpRefIdeal.τ) (Cert.QUpRefIdeal.main (F := Ideal))) ⟨m, fun _ => 0, g⟩ (fun r => (∀ c : Dev Cert.QUpRefIdeal.nD,
      r.2.mem ((c.tc : Thread Cert.QUpRefIdeal.nD Cert.QUpRefIdeal.τ).loc Cert.QUpRefIdeal.main_arg0) = m ((c.tc : Thread Cert.QUpRefIdeal.nD Cert.QUpRefIdeal.τ).loc Cert.QUpRefIdeal.main_arg0)
      ∧ r.2.mem ((c.tc : Thread Cert.QUpRefIdeal.nD Cert.QUpRefIdeal.τ).loc Cert.QUpRefIdeal.main_arg1) = m ((c.tc : Thread Cert.QUpRefIdeal.nD Cert.QUpRefIdeal.τ).loc Cert.QUpRefIdeal.main_arg1)
      ∧ r.2.mem ((c.tc : Thread Cert.QUpRefIdeal.nD Cert.QUpRefIdeal.τ).loc Cert.QUpRefIdeal.main_arg2) = m ((c.tc : Thread Cert.QUpRefIdeal.nD Cert.QUpRefIdeal.τ).loc Cert.QUpRefIdeal.main_arg2))
      ∧ r.2.sem = fun _ => 0)

def quiescent_KvUp [hKvUp : Cert.KvUp.Facts] : Prop :=
  ∀ (m : (ℓ : Loc Cert.KvUp.nD Cert.KvUp.τ Cert.KvUp.sig) → Buf (Elt Bits) ℓ) (g : Dev Cert.KvUp.nD → PrngReg), Pre_KvUp m →
    θ_run (Cert.KvUp.defs (F := Bits)) (onTc (τ := Cert.KvUp.τ) (Cert.KvUp.main (F := Bits))) ⟨m, fun _ => 0, g⟩ (fun r => (∀ c : Dev Cert.KvUp.nD,
      r.2.mem ((c.tc : Thread Cert.KvUp.nD Cert.KvUp.τ).loc Cert.KvUp.main_arg0) = m ((c.tc : Thread Cert.KvUp.nD Cert.KvUp.τ).loc Cert.KvUp.main_arg0)
      ∧ r.2.mem ((c.tc : Thread Cert.KvUp.nD Cert.KvUp.τ).loc Cert.KvUp.main_arg1) = m ((c.tc : Thread Cert.KvUp.nD Cert.KvUp.τ).loc Cert.KvUp.main_arg1)
      ∧ r.2.mem ((c.tc : Thread Cert.KvUp.nD Cert.KvUp.τ).loc Cert.KvUp.main_arg2) = m ((c.tc : Thread Cert.KvUp.nD Cert.KvUp.τ).loc Cert.KvUp.main_arg2))
      ∧ r.2.sem = fun _ => 0)

def quiescent_KvUpIdeal [hKvUpIdeal : Cert.KvUpIdeal.Facts] : Prop :=
  ∀ (m : (ℓ : Loc Cert.KvUpIdeal.nD Cert.KvUpIdeal.τ Cert.KvUpIdeal.sig) → Buf (Elt Ideal) ℓ) (g : Dev Cert.KvUpIdeal.nD → PrngReg), Pre_KvUpIdeal m →
    θ_run (Cert.KvUpIdeal.defs (F := Ideal)) (onTc (τ := Cert.KvUpIdeal.τ) (Cert.KvUpIdeal.main (F := Ideal))) ⟨m, fun _ => 0, g⟩ (fun r => (∀ c : Dev Cert.KvUpIdeal.nD,
      r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
      ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1)
      ∧ r.2.mem ((c.tc : Thread Cert.KvUpIdeal.nD Cert.KvUpIdeal.τ).loc Cert.KvUpIdeal.main_arg2) = m ((c.tc : Thread Cert.KvUpIdeal.nD Cert.KvUpIdeal.τ).loc Cert.KvUpIdeal.main_arg2))
      ∧ r.2.sem = fun _ => 0)

def quiescent_KvUpRefIdeal [hKvUpRefIdeal : Cert.KvUpRefIdeal.Facts] : Prop :=
  ∀ (m : (ℓ : Loc Cert.KvUpRefIdeal.nD Cert.KvUpRefIdeal.τ Cert.KvUpRefIdeal.sig) → Buf (Elt Ideal) ℓ) (g : Dev Cert.KvUpRefIdeal.nD → PrngReg), Pre_KvUpRefIdeal m →
    θ_run (Cert.KvUpRefIdeal.defs (F := Ideal)) (onTc (τ := Cert.KvUpRefIdeal.τ) (Cert.KvUpRefIdeal.main (F := Ideal))) ⟨m, fun _ => 0, g⟩ (fun r => (∀ c : Dev Cert.KvUpRefIdeal.nD,
      r.2.mem ((c.tc : Thread Cert.KvUpRefIdeal.nD Cert.KvUpRefIdeal.τ).loc Cert.KvUpRefIdeal.main_arg0) = m ((c.tc : Thread Cert.KvUpRefIdeal.nD Cert.KvUpRefIdeal.τ).loc Cert.KvUpRefIdeal.main_arg0)
      ∧ r.2.mem ((c.tc : Thread Cert.KvUpRefIdeal.nD Cert.KvUpRefIdeal.τ).loc Cert.KvUpRefIdeal.main_arg1) = m ((c.tc : Thread Cert.KvUpRefIdeal.nD Cert.KvUpRefIdeal.τ).loc Cert.KvUpRefIdeal.main_arg1)
      ∧ r.2.mem ((c.tc : Thread Cert.KvUpRefIdeal.nD Cert.KvUpRefIdeal.τ).loc Cert.KvUpRefIdeal.main_arg2) = m ((c.tc : Thread Cert.KvUpRefIdeal.nD Cert.KvUpRefIdeal.τ).loc Cert.KvUpRefIdeal.main_arg2))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def preserves_Attn_AttnIdeal : Prop :=
  IdealRules.named_const.Statement Cert.AttnIdeal.κ "scale_log2e" .f32 0x3DD53B95#32 (((Real.sqrt 192)⁻¹ * (Real.log 2)⁻¹ : ℝ) : EReal)

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v7)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v7) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v21) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)
      ∧ m' ((c.tc : Thread Cert.FfnUpRefIdeal.nD Cert.FfnUpRefIdeal.τ).loc Cert.FfnUpRefIdeal.main_arg4) = m ((c.tc : Thread Cert.FfnUpIdeal.nD Cert.FfnUpIdeal.τ).loc Cert.FfnUpIdeal.main_arg4)) →
    ∃ (v0 : (c : Dev Cert.FfnUpIdeal.nD) → Buf (Elt Ideal) ((c.tc : Thread Cert.FfnUpIdeal.nD Cert.FfnUpIdeal.τ).loc Cert.FfnUpIdeal.main_v2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v2) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
          ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v24) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3)
          ∧ r.2.mem ((c.tc : Thread Cert.FfnUpRefIdeal.nD Cert.FfnUpRefIdeal.τ).loc Cert.FfnUpRefIdeal.main_arg4) = m' ((c.tc : Thread Cert.FfnUpRefIdeal.nD Cert.FfnUpRefIdeal.τ).loc Cert.FfnUpRefIdeal.main_arg4))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v4) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v12)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v12) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v29) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_QUp_QUpIdeal : Prop :=
  True

def algebraic_QUpIdeal_QUpRefIdeal [hQUpIdeal : Cert.QUpIdeal.Facts] [hQUpRefIdeal : Cert.QUpRefIdeal.Facts] : Prop :=
  ∀ (m : (ℓ : Loc Cert.QUpIdeal.nD Cert.QUpIdeal.τ Cert.QUpIdeal.sig) → Buf (Elt Ideal) ℓ) (g : Dev Cert.QUpIdeal.nD → PrngReg)
    (m' : (ℓ : Loc Cert.QUpRefIdeal.nD Cert.QUpRefIdeal.τ Cert.QUpRefIdeal.sig) → Buf (Elt Ideal) ℓ) (g' : Dev Cert.QUpRefIdeal.nD → PrngReg), Pre_QUpIdeal m →
    (∀ c : Dev Cert.QUpIdeal.nD,
      m' ((c.tc : Thread Cert.QUpRefIdeal.nD Cert.QUpRefIdeal.τ).loc Cert.QUpRefIdeal.main_arg0) = m ((c.tc : Thread Cert.QUpIdeal.nD Cert.QUpIdeal.τ).loc Cert.QUpIdeal.main_arg0)
      ∧ m' ((c.tc : Thread Cert.QUpRefIdeal.nD Cert.QUpRefIdeal.τ).loc Cert.QUpRefIdeal.main_arg1) = m ((c.tc : Thread Cert.QUpIdeal.nD Cert.QUpIdeal.τ).loc Cert.QUpIdeal.main_arg1)
      ∧ m' ((c.tc : Thread Cert.QUpRefIdeal.nD Cert.QUpRefIdeal.τ).loc Cert.QUpRefIdeal.main_arg2) = m ((c.tc : Thread Cert.QUpIdeal.nD Cert.QUpIdeal.τ).loc Cert.QUpIdeal.main_arg2)) →
    ∃ (v0 : (c : Dev Cert.QUpIdeal.nD) → Buf (Elt Ideal) ((c.tc : Thread Cert.QUpIdeal.nD Cert.QUpIdeal.τ).loc Cert.QUpIdeal.main_v3)),
      θ_run (Cert.QUpIdeal.defs (F := Ideal)) (onTc (τ := Cert.QUpIdeal.τ) (Cert.QUpIdeal.main (F := Ideal))) ⟨m, fun _ => 0, g⟩ (fun r => ∀ c : Dev Cert.QUpIdeal.nD,
          r.2.mem ((c.tc : Thread Cert.QUpIdeal.nD Cert.QUpIdeal.τ).loc Cert.QUpIdeal.main_v3) = v0 c
          ∧ r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
          ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1)
          ∧ r.2.mem ((c.tc : Thread Cert.QUpIdeal.nD Cert.QUpIdeal.τ).loc Cert.QUpIdeal.main_arg2) = m ((c.tc : Thread Cert.QUpIdeal.nD Cert.QUpIdeal.τ).loc Cert.QUpIdeal.main_arg2))
      ∧ θ_run (Cert.QUpRefIdeal.defs (F := Ideal)) (onTc (τ := Cert.QUpRefIdeal.τ) (Cert.QUpRefIdeal.main (F := Ideal))) ⟨m', fun _ => 0, g'⟩ (fun r => ∀ c : Dev Cert.QUpRefIdeal.nD,
          r.2.mem ((c.tc : Thread Cert.QUpRefIdeal.nD Cert.QUpRefIdeal.τ).loc Cert.QUpRefIdeal.main_v14) = v0 c
          ∧ r.2.mem ((c.tc : Thread Cert.QUpRefIdeal.nD Cert.QUpRefIdeal.τ).loc Cert.QUpRefIdeal.main_arg0) = m' ((c.tc : Thread Cert.QUpRefIdeal.nD Cert.QUpRefIdeal.τ).loc Cert.QUpRefIdeal.main_arg0)
          ∧ r.2.mem ((c.tc : Thread Cert.QUpRefIdeal.nD Cert.QUpRefIdeal.τ).loc Cert.QUpRefIdeal.main_arg1) = m' ((c.tc : Thread Cert.QUpRefIdeal.nD Cert.QUpRefIdeal.τ).loc Cert.QUpRefIdeal.main_arg1)
          ∧ r.2.mem ((c.tc : Thread Cert.QUpRefIdeal.nD Cert.QUpRefIdeal.τ).loc Cert.QUpRefIdeal.main_arg2) = m' ((c.tc : Thread Cert.QUpRefIdeal.nD Cert.QUpRefIdeal.τ).loc Cert.QUpRefIdeal.main_arg2))

def preserves_KvUp_KvUpIdeal : Prop :=
  True

def algebraic_KvUpIdeal_KvUpRefIdeal [hKvUpIdeal : Cert.KvUpIdeal.Facts] [hKvUpRefIdeal : Cert.KvUpRefIdeal.Facts] : Prop :=
  ∀ (m : (ℓ : Loc Cert.KvUpIdeal.nD Cert.KvUpIdeal.τ Cert.KvUpIdeal.sig) → Buf (Elt Ideal) ℓ) (g : Dev Cert.KvUpIdeal.nD → PrngReg)
    (m' : (ℓ : Loc Cert.KvUpRefIdeal.nD Cert.KvUpRefIdeal.τ Cert.KvUpRefIdeal.sig) → Buf (Elt Ideal) ℓ) (g' : Dev Cert.KvUpRefIdeal.nD → PrngReg), Pre_KvUpIdeal m →
    (∀ c : Dev Cert.KvUpIdeal.nD,
      m' ((c.tc : Thread Cert.KvUpRefIdeal.nD Cert.KvUpRefIdeal.τ).loc Cert.KvUpRefIdeal.main_arg0) = m ((c.tc : Thread Cert.KvUpIdeal.nD Cert.KvUpIdeal.τ).loc Cert.KvUpIdeal.main_arg0)
      ∧ m' ((c.tc : Thread Cert.KvUpRefIdeal.nD Cert.KvUpRefIdeal.τ).loc Cert.KvUpRefIdeal.main_arg1) = m ((c.tc : Thread Cert.KvUpIdeal.nD Cert.KvUpIdeal.τ).loc Cert.KvUpIdeal.main_arg1)
      ∧ m' ((c.tc : Thread Cert.KvUpRefIdeal.nD Cert.KvUpRefIdeal.τ).loc Cert.KvUpRefIdeal.main_arg2) = m ((c.tc : Thread Cert.KvUpIdeal.nD Cert.KvUpIdeal.τ).loc Cert.KvUpIdeal.main_arg2)) →
    ∃ (v0 : (c : Dev Cert.KvUpIdeal.nD) → Buf (Elt Ideal) ((c.tc : Thread Cert.KvUpIdeal.nD Cert.KvUpIdeal.τ).loc Cert.KvUpIdeal.main_v3)),
      θ_run (Cert.KvUpIdeal.defs (F := Ideal)) (onTc (τ := Cert.KvUpIdeal.τ) (Cert.KvUpIdeal.main (F := Ideal))) ⟨m, fun _ => 0, g⟩ (fun r => ∀ c : Dev Cert.KvUpIdeal.nD,
          r.2.mem ((c.tc : Thread Cert.KvUpIdeal.nD Cert.KvUpIdeal.τ).loc Cert.KvUpIdeal.main_v3) = v0 c
          ∧ r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
          ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1)
          ∧ r.2.mem ((c.tc : Thread Cert.KvUpIdeal.nD Cert.KvUpIdeal.τ).loc Cert.KvUpIdeal.main_arg2) = m ((c.tc : Thread Cert.KvUpIdeal.nD Cert.KvUpIdeal.τ).loc Cert.KvUpIdeal.main_arg2))
      ∧ θ_run (Cert.KvUpRefIdeal.defs (F := Ideal)) (onTc (τ := Cert.KvUpRefIdeal.τ) (Cert.KvUpRefIdeal.main (F := Ideal))) ⟨m', fun _ => 0, g'⟩ (fun r => ∀ c : Dev Cert.KvUpRefIdeal.nD,
          r.2.mem ((c.tc : Thread Cert.KvUpRefIdeal.nD Cert.KvUpRefIdeal.τ).loc Cert.KvUpRefIdeal.main_v14) = v0 c
          ∧ r.2.mem ((c.tc : Thread Cert.KvUpRefIdeal.nD Cert.KvUpRefIdeal.τ).loc Cert.KvUpRefIdeal.main_arg0) = m' ((c.tc : Thread Cert.KvUpRefIdeal.nD Cert.KvUpRefIdeal.τ).loc Cert.KvUpRefIdeal.main_arg0)
          ∧ r.2.mem ((c.tc : Thread Cert.KvUpRefIdeal.nD Cert.KvUpRefIdeal.τ).loc Cert.KvUpRefIdeal.main_arg1) = m' ((c.tc : Thread Cert.KvUpRefIdeal.nD Cert.KvUpRefIdeal.τ).loc Cert.KvUpRefIdeal.main_arg1)
          ∧ r.2.mem ((c.tc : Thread Cert.KvUpRefIdeal.nD Cert.KvUpRefIdeal.τ).loc Cert.KvUpRefIdeal.main_arg2) = m' ((c.tc : Thread Cert.KvUpRefIdeal.nD Cert.KvUpRefIdeal.τ).loc Cert.KvUpRefIdeal.main_arg2))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v7)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v7) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v42) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def Claim : Prop :=
  ∃ (hAttn : Cert.Attn.Facts) (hAttnIdeal : Cert.AttnIdeal.Facts) (hAttnRefIdeal : Cert.AttnRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hQUp : Cert.QUp.Facts) (hQUpIdeal : Cert.QUpIdeal.Facts) (hQUpRefIdeal : Cert.QUpRefIdeal.Facts) (hKvUp : Cert.KvUp.Facts) (hKvUpIdeal : Cert.KvUpIdeal.Facts) (hKvUpRefIdeal : Cert.KvUpRefIdeal.Facts) (hAda : Cert.Ada.Facts) (hAdaIdeal : Cert.AdaIdeal.Facts) (hAdaRefIdeal : Cert.AdaRefIdeal.Facts) (hPre_finite_qk : Cert.Pre_finite_qk.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_QUp (hQUp := hQUp)
    ∧ quiescent_QUpIdeal (hQUpIdeal := hQUpIdeal)
    ∧ quiescent_QUpRefIdeal (hQUpRefIdeal := hQUpRefIdeal)
    ∧ quiescent_KvUp (hKvUp := hKvUp)
    ∧ quiescent_KvUpIdeal (hKvUpIdeal := hKvUpIdeal)
    ∧ quiescent_KvUpRefIdeal (hKvUpRefIdeal := hKvUpRefIdeal)
    ∧ quiescent_Ada (hAda := hAda)
    ∧ quiescent_AdaIdeal (hAdaIdeal := hAdaIdeal)
    ∧ quiescent_AdaRefIdeal (hAdaRefIdeal := hAdaRefIdeal)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_QUp_QUpIdeal
    ∧ algebraic_QUpIdeal_QUpRefIdeal (hQUpIdeal := hQUpIdeal) (hQUpRefIdeal := hQUpRefIdeal)
    ∧ preserves_KvUp_KvUpIdeal
    ∧ algebraic_KvUpIdeal_KvUpRefIdeal (hKvUpIdeal := hKvUpIdeal) (hKvUpRefIdeal := hKvUpRefIdeal)
    ∧ preserves_Ada_AdaIdeal
    ∧ algebraic_AdaIdeal_AdaRefIdeal (hAdaIdeal := hAdaIdeal) (hAdaRefIdeal := hAdaRefIdeal)
-- ==== Pre_finite_qk.lean ====
abbrev S4x4096x8x192 : Shape := ⟨4, ![4, 4096, 8, 192]⟩
abbrev S4x4352x8x192 : Shape := ⟨4, ![4, 4352, 8, 192]⟩
abbrev S4x4352x8x128 : Shape := ⟨4, ![4, 4352, 8, 128]⟩
abbrev S_ : Shape := ⟨0, ![]⟩

class Facts : Prop where
  bcast_S_S4x4096x8x192 : S_.BroadcastsInDim S4x4096x8x192 (![] : Fin 0 → Fin S4x4096x8x192.rank)
  reducesTo_S4x4096x8x192_S_d0_1_2_3 : S4x4096x8x192.ReducesTo [0, 1, 2, 3] S_
  h_S_ : 0 < S_.numel
  bcast_S_S4x4352x8x192 : S_.BroadcastsInDim S4x4352x8x192 (![] : Fin 0 → Fin S4x4352x8x192.rank)
  reducesTo_S4x4352x8x192_S_d0_1_2_3 : S4x4352x8x192.ReducesTo [0, 1, 2, 3] S_

variable [Facts]

def fn {F : FTy → Type} [FloatOps F] (main_arg0 : FVec F S4x4096x8x192 .f32) (main_arg1 : FVec F S4x4352x8x192 .f32) (main_arg2 : FVec F S4x4352x8x128 .f32) : IVec S_ 1 :=
  let main_v0 : FVec F S4x4096x8x192 .f32 := Host.absf main_arg0
  let main_cst : FVec F S_ .f32 := constant S_ .f32 0x7F800000#32
  let main_v1 : FVec F S4x4096x8x192 .f32 := broadcastInDim S4x4096x8x192 ![] bcast_S_S4x4096x8x192 main_cst
  let main_v2 : IVec S4x4096x8x192 1 := cmpf .olt main_v0 main_v1
  let main_c : IVec S_ 1 := constantI S_ 1 1#1
  let main_v3 : IVec S_ 1 := (fun x v => Host.reduce IntOp.andi x v reducesTo_S4x4096x8x192_S_d0_1_2_3 h_S_) main_v2 main_c
  let main_v4 : FVec F S4x4352x8x192 .f32 := Host.absf main_arg1
  let main_cst_0 : FVec F S_ .f32 := constant S_ .f32 0x7F800000#32
  let main_v5 : FVec F S4x4352x8x192 .f32 := broadcastInDim S4x4352x8x192 ![] bcast_S_S4x4352x8x192 main_cst_0
  let main_v6 : IVec S4x4352x8x192 1 := cmpf .olt main_v4 main_v5
  let main_c_1 : IVec S_ 1 := constantI S_ 1 1#1
  let main_v7 : IVec S_ 1 := (fun x v => Host.reduce IntOp.andi x v reducesTo_S4x4352x8x192_S_d0_1_2_3 h_S_) main_v6 main_c_1
  let main_v8 : IVec S_ 1 := andi main_v3 main_v7
  main_v8
-- ==== Attn.lean ====
abbrev S4x4096x8x192 : Shape := ⟨4, ![4, 4096, 8, 192]⟩
abbrev S4x4352x8x192 : Shape := ⟨4, ![4, 4352, 8, 192]⟩
abbrev S4x4352x8x128 : Shape := ⟨4, ![4, 4352, 8, 128]⟩
abbrev S_ : Shape := ⟨0, ![]⟩
abbrev S4x4096x8x256 : Shape := ⟨4, ![4, 4096, 8, 256]⟩
abbrev S4x8x256x4096 : Shape := ⟨4, ![4, 8, 256, 4096]⟩
abbrev S4x4352x8x256 : Shape := ⟨4, ![4, 4352, 8, 256]⟩
abbrev S4x8x4352x256 : Shape := ⟨4, ![4, 8, 4352, 256]⟩
abbrev S4x8x128x4352 : Shape := ⟨4, ![4, 8, 128, 4352]⟩
abbrev S4x1024x4096 : Shape := ⟨3, ![4, 1024, 4096]⟩
abbrev S1x1x256x256 : Shape := ⟨4, ![1, 1, 256, 256]⟩
abbrev S1x1x4352x256 : Shape := ⟨4, ![1, 1, 4352, 256]⟩
abbrev S1x1x128x4352 : Shape := ⟨4, ![1, 1, 128, 4352]⟩
abbrev S1x128x256 : Shape := ⟨3, ![1, 128, 256]⟩
abbrev S256x256 : Shape := ⟨2, ![256, 256]⟩
abbrev S4352x256 : Shape := ⟨2, ![4352, 256]⟩
abbrev S256 : Shape := ⟨1, ![256]⟩
abbrev S1x256 : Shape := ⟨2, ![1, 256]⟩
abbrev S128x4352 : Shape := ⟨2, ![128, 4352]⟩
abbrev S128x256 : Shape := ⟨2, ![128, 256]⟩

abbrev nBuf : Space → Nat
  | .hbm => 15
  | .vmem => 8
  | .smem => 0
  | _ => 0

abbrev bufTy : (tb : Table) → Fin (tcTables nBuf tb) → BufTy
  | .hbm, ⟨0, _⟩ => ⟨S4x4096x8x192, .f32⟩
  | .hbm, ⟨1, _⟩ => ⟨S4x4352x8x192, .f32⟩
  | .hbm, ⟨2, _⟩ => ⟨S4x4352x8x128, .f32⟩
  | .hbm, ⟨3, _⟩ => ⟨S_, .i32⟩
  | .hbm, ⟨4, _⟩ => ⟨S_, .f32⟩
  | .hbm, ⟨5, _⟩ => ⟨S4x4096x8x256, .f32⟩
  | .hbm, ⟨6, _⟩ => ⟨S4x8x256x4096, .f32⟩
  | .hbm, ⟨7, _⟩ => ⟨S_, .i32⟩
  | .hbm, ⟨8, _⟩ => ⟨S_, .f32⟩
  | .hbm, ⟨9, _⟩ => ⟨S4x4352x8x256, .f32⟩
  | .hbm, ⟨10, _⟩ => ⟨S4x4352x8x256, .bf16⟩
  | .hbm, ⟨11, _⟩ => ⟨S4x8x4352x256, .bf16⟩
  | .hbm, ⟨12, _⟩ => ⟨S4x4352x8x128, .bf16⟩
  | .hbm, ⟨13, _⟩ => ⟨S4x8x128x4352, .bf16⟩
  | .hbm, ⟨14, _⟩ => ⟨S4x1024x4096, .f32⟩
  | .local _ .vmem, ⟨0, _⟩ => ⟨S1x1x256x256, .f32⟩
  | .local _ .vmem, ⟨1, _⟩ => ⟨S1x1x256x256, .f32⟩
  | .local _ .vmem, ⟨2, _⟩ => ⟨S1x1x4352x256, .bf16⟩
  | .local _ .vmem, ⟨3, _⟩ => ⟨S1x1x4352x256, .bf16⟩
  | .local _ .vmem, ⟨4, _⟩ => ⟨S1x1x128x4352, .bf16⟩
  | .local _ .vmem, ⟨5, _⟩ => ⟨S1x1x128x4352, .bf16⟩
  | .local _ .vmem, ⟨6, _⟩ => ⟨S1x128x256, .f32⟩
  | .local _ .vmem, ⟨7, _⟩ => ⟨S1x128x256, .f32⟩
  | _, _ => ⟨S4x4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x128x4352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnIdeal.lean ====
variable {F : FTy → Type} [FloatOps F] [Named F]
def κ : String → Option EReal := fun
  | "scale_log2e" => some (((Real.sqrt 192)⁻¹ * (Real.log 2)⁻¹ : ℝ) : EReal)
  | _ => none
-- ==== AttnRefIdeal.lean ====
abbrev S4x4096x8x192 : Shape := ⟨4, ![4, 4096, 8, 192]⟩
abbrev S4x4352x8x192 : Shape := ⟨4, ![4, 4352, 8, 192]⟩
abbrev S4x4352x8x128 : Shape := ⟨4, ![4, 4352, 8, 128]⟩
abbrev S4x8x4096x192 : Shape := ⟨4, ![4, 8, 4096, 192]⟩
abbrev S4x8x4352x192 : Shape := ⟨4, ![4, 8, 4352, 192]⟩
abbrev S4x8x4352x128 : Shape := ⟨4, ![4, 8, 4352, 128]⟩
abbrev S4x8x4096x4352 : Shape := ⟨4, ![4, 8, 4096, 4352]⟩
abbrev S_ : Shape := ⟨0, ![]⟩
abbrev S4x8x4096 : Shape := ⟨3, ![4, 8, 4096]⟩
abbrev S4x8x4096x1 : Shape := ⟨4, ![4, 8, 4096, 1]⟩
abbrev S4x8x4096x128 : Shape := ⟨4, ![4, 8, 4096, 128]⟩
abbrev S4x4096x8x128 : Shape := ⟨4, ![4, 4096, 8, 128]⟩
abbrev S4x4096x1024 : Shape := ⟨3, ![4, 4096, 1024]⟩
abbrev S4x1024x4096 : Shape := ⟨3, ![4, 1024, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x8x192, .f32⟩
  | .hbm, ⟨1, _⟩ => ⟨S4x4352x8x192, .f32⟩
  | .hbm, ⟨2, _⟩ => ⟨S4x4352x8x128, .f32⟩
  | .hbm, ⟨3, _⟩ => ⟨S4x8x4096x192, .f32⟩
  | .hbm, ⟨4, _⟩ => ⟨S4x8x4352x192, .f32⟩
  | .hbm, ⟨5, _⟩ => ⟨S4x8x4352x128, .f32⟩
  | .hbm, ⟨6, _⟩ => ⟨S4x8x4096x4352, .f32⟩
  | .hbm, ⟨7, _⟩ => ⟨S_, .f32⟩
  | .hbm, ⟨8, _⟩ => ⟨S_, .f32⟩
  | .hbm, ⟨9, _⟩ => ⟨S4x8x4096x4352, .f32⟩
  | .hbm, ⟨10, _⟩ => ⟨S4x8x4096x4352, .f32⟩
  | .hbm, ⟨11, _⟩ => ⟨S_, .f32⟩
  | .hbm, ⟨12, _⟩ => ⟨S4x8x4096, .f32⟩
  | .hbm, ⟨13, _⟩ => ⟨S_, .f32⟩
  | .hbm, ⟨14, _⟩ => ⟨S4x8x4096, .f32⟩
  | .hbm, ⟨15, _⟩ => ⟨S4x8x4096, .f32⟩
  | .hbm, ⟨16, _⟩ => ⟨S4x8x4096x1, .f32⟩
  | .hbm, ⟨17, _⟩ => ⟨S4x8x4096x4352, .f32⟩
  | .hbm, ⟨18, _⟩ => ⟨S4x8x4096x4352, .f32⟩
  | .hbm, ⟨19, _⟩ => ⟨S4x8x4096x4352, .f32⟩
  | .hbm, ⟨20, _⟩ => ⟨S_, .f32⟩
  | .hbm, ⟨21, _⟩ => ⟨S4x8x4096, .f32⟩
  | .hbm, ⟨22, _⟩ => ⟨S4x8x4096x1, .f32⟩
  | .hbm, ⟨23, _⟩ => ⟨S4x8x4096x4352, .f32⟩
  | .hbm, ⟨24, _⟩ => ⟨S4x8x4096x4352, .f32⟩
  | .hbm, ⟨25, _⟩ => ⟨S4x8x4096x128, .f32⟩
  | .hbm, ⟨26, _⟩ => ⟨S4x4096x8x128, .f32⟩
  | .hbm, ⟨27, _⟩ => ⟨S4x4096x1024, .f32⟩
  | .hbm, ⟨28, _⟩ => ⟨S4x1024x4096, .f32⟩
  | _, _ => ⟨S4x4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== FfnUp.lean ====
abbrev S4x4096x2048 : Shape := ⟨3, ![4, 4096, 2048]⟩
abbrev S2048 : Shape := ⟨1, ![2048]⟩
abbrev S4x1x2048 : Shape := ⟨3, ![4, 1, 2048]⟩
abbrev S2048x11264 : Shape := ⟨2, ![2048, 11264]⟩
abbrev S1x2048 : Shape := ⟨2, ![1, 2048]⟩
abbrev S4x4096x5632 : Shape := ⟨3, ![4, 4096, 5632]⟩
abbrev S1x1024x2048 : Shape := ⟨3, ![1, 1024, 2048]⟩
abbrev S1x1x2048 : Shape := ⟨3, ![1, 1, 2048]⟩
abbrev S2048x512 : Shape := ⟨2, ![2048, 512]⟩
abbrev S1x1024x512 : Shape := ⟨3, ![1, 1024, 512]⟩
abbrev S1024x2048 : Shape := ⟨2, ![1024, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 8
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x11264, .f32⟩
  | .hbm, ⟨5, _⟩ => ⟨S2048x11264, .bf16⟩
  | .hbm, ⟨6, _⟩ => ⟨S1x2048, .f32⟩
  | .hbm, ⟨7, _⟩ => ⟨S4x4096x5632, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 4, 11], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg2 c11_i32
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== FfnUpRefIdeal.lean ====
abbrev S4x4096x2048 : Shape := ⟨3, ![4, 4096, 2048]⟩
abbrev S2048 : Shape := ⟨1, ![2048]⟩
abbrev S4x1x2048 : Shape := ⟨3, ![4, 1, 2048]⟩
abbrev S2048x11264 : Shape := ⟨2, ![2048, 11264]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x11264 : Shape := ⟨3, ![4, 4096, 11264]⟩
abbrev S4x4096x5632 : Shape := ⟨3, ![4, 4096, 5632]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x11264, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S_, .f32⟩
  | .hbm, ⟨22, _⟩ => ⟨S4x1x2048, .f32⟩
  | .hbm, ⟨23, _⟩ => ⟨S4x1x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x11264, .f32⟩
  | .hbm, ⟨29, _⟩ => ⟨S4x4096x5632, .f32⟩
  | .hbm, ⟨30, _⟩ => ⟨S4x4096x5632, .f32⟩
  | .hbm, ⟨31, _⟩ => ⟨S4x4096x5632, .f32⟩
  | .hbm, ⟨32, _⟩ => ⟨S4x4096x5632, .f32⟩
  | .hbm, ⟨33, _⟩ => ⟨S_, .f32⟩
  | .hbm, ⟨34, _⟩ => ⟨S4x4096x5632, .f32⟩
  | .hbm, ⟨35, _⟩ => ⟨S4x4096x5632, .f32⟩
  | .hbm, ⟨36, _⟩ => ⟨S_, .f32⟩
  | .hbm, ⟨37, _⟩ => ⟨S4x4096x5632, .f32⟩
  | .hbm, ⟨38, _⟩ => ⟨S4x4096x5632, .f32⟩
  | .hbm, ⟨39, _⟩ => ⟨S4x4096x5632, .f32⟩
  | .hbm, ⟨40, _⟩ => ⟨S4x4096x5632, .f32⟩
  | .hbm, ⟨41, _⟩ => ⟨S4x4096x5632, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]
-- ==== FfnDown.lean ====
abbrev S4x4096x5632 : Shape := ⟨3, ![4, 4096, 5632]⟩
abbrev S5632x2048 : Shape := ⟨2, ![5632, 2048]⟩
abbrev S4x4096x2048 : Shape := ⟨3, ![4, 4096, 2048]⟩
abbrev S4x1x2048 : Shape := ⟨3, ![4, 1, 2048]⟩
abbrev S1x1024x5632 : Shape := ⟨3, ![1, 1024, 5632]⟩
abbrev S5632x512 : Shape := ⟨2, ![5632, 512]⟩
abbrev S1x1024x512 : Shape := ⟨3, ![1, 1024, 512]⟩
abbrev S1x1x512 : Shape := ⟨3, ![1, 1, 512]⟩
abbrev S1024x5632 : Shape := ⟨2, ![1024, 5632]⟩
abbrev S1024x512 : Shape := ⟨2, ![1024, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S4x4096x5632, .bf16⟩
  | .hbm, ⟨1, _⟩ => ⟨S5632x2048, .f32⟩
  | .hbm, ⟨2, _⟩ => ⟨S4x4096x2048, .f32⟩
  | .hbm, ⟨3, _⟩ => ⟨S4x1x2048, .f32⟩
  | .hbm, ⟨4, _⟩ => ⟨S5632x2048, .bf16⟩
  | .hbm, ⟨5, _⟩ => ⟨S4x4096x2048, .f32⟩
  | .local _ .vmem, ⟨0, _⟩ => ⟨S1x1024x5632, .bf16⟩
  | .local _ .vmem, ⟨1, _⟩ => ⟨S1x1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1x1024x512, .f32⟩
  | .local _ .vmem, ⟨5, _⟩ => ⟨S1x1024x512, .f32⟩
  | .local _ .vmem, ⟨6, _⟩ => ⟨S1x1x512, .f32⟩
  | .local _ .vmem, ⟨7, _⟩ => ⟨S1x1x512, .f32⟩
  | .local _ .vmem, ⟨8, _⟩ => ⟨S1x1024x512, .f32⟩
  | .local _ .vmem, ⟨9, _⟩ => ⟨S1x1024x512, .f32⟩
  | _, _ => ⟨S4x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== FfnDownRefIdeal.lean ====
abbrev S4x4096x5632 : Shape := ⟨3, ![4, 4096, 5632]⟩
abbrev S5632x2048 : Shape := ⟨2, ![5632, 2048]⟩
abbrev S4x4096x2048 : Shape := ⟨3, ![4, 4096, 2048]⟩
abbrev S4x1x2048 : Shape := ⟨3, ![4, 1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x5632, .bf16⟩
  | .hbm, ⟨1, _⟩ => ⟨S5632x2048, .f32⟩
  | .hbm, ⟨2, _⟩ => ⟨S4x4096x2048, .f32⟩
  | .hbm, ⟨3, _⟩ => ⟨S4x1x2048, .f32⟩
  | .hbm, ⟨4, _⟩ => ⟨S4x4096x5632, .f32⟩
  | .hbm, ⟨5, _⟩ => ⟨S4x4096x2048, .f32⟩
  | .hbm, ⟨6, _⟩ => ⟨S4x4096x2048, .f32⟩
  | .hbm, ⟨7, _⟩ => ⟨S4x4096x2048, .f32⟩
  | .hbm, ⟨8, _⟩ => ⟨S4x4096x2048, .f32⟩
  | _, _ => ⟨S4x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== InProj.lean ====
abbrev S4x4096x2048 : Shape := ⟨3, ![4, 4096, 2048]⟩
abbrev S2048 : Shape := ⟨1, ![2048]⟩
abbrev S4x1x2048 : Shape := ⟨3, ![4, 1, 2048]⟩
abbrev S2048x4688 : Shape := ⟨2, ![2048, 4688]⟩
abbrev S2048x512 : Shape := ⟨2, ![2048, 512]⟩
abbrev S2048x64 : Shape := ⟨2, ![2048, 64]⟩
abbrev S2048x1536 : Shape := ⟨2, ![2048, 1536]⟩
abbrev S2048x1024 : Shape := ⟨2, ![2048, 1024]⟩
abbrev S2048x16 : Shape := ⟨2, ![2048, 16]⟩
abbrev S_ : Shape := ⟨0, ![]⟩
abbrev S2048x176 : Shape := ⟨2, ![2048, 176]⟩
abbrev S2048x4864 : Shape := ⟨2, ![2048, 4864]⟩
abbrev S1x2048 : Shape := ⟨2, ![1, 2048]⟩
abbrev S4x4096x4864 : Shape := ⟨3, ![4, 4096, 4864]⟩
abbrev S1x1024x2048 : Shape := ⟨3, ![1, 1024, 2048]⟩
abbrev S1x1x2048 : Shape := ⟨3, ![1, 1, 2048]⟩
abbrev S2048x256 : Shape := ⟨2, ![2048, 256]⟩
abbrev S1x1024x256 : Shape := ⟨3, ![1, 1024, 256]⟩
abbrev S1024x2048 : Shape := ⟨2, ![1024, 2048]⟩
abbrev S1024 : Shape := ⟨1, ![1024]⟩
abbrev S1024x1 : Shape := ⟨2, ![1024, 1]⟩
abbrev S1024x256 : Shape := ⟨2, ![1024, 256]⟩

abbrev nBuf : Space → Nat
  | .hbm => 19
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x4688, .f32⟩
  | .hbm, ⟨5, _⟩ => ⟨S2048x512, .f32⟩
  | .hbm, ⟨6, _⟩ => ⟨S2048x512, .f32⟩
  | .hbm, ⟨7, _⟩ => ⟨S2048x64, .f32⟩
  | .hbm, ⟨8, _⟩ => ⟨S2048x1536, .f32⟩
  | .hbm, ⟨9, _⟩ => ⟨S2048x1024, .f32⟩
  | .hbm, ⟨10, _⟩ => ⟨S2048x512, .f32⟩
  | .hbm, ⟨11, _⟩ => ⟨S2048x512, .f32⟩
  | .hbm, ⟨12, _⟩ => ⟨S2048x16, .f32⟩
  | .hbm, ⟨13, _⟩ => ⟨S_, .f32⟩
  | .hbm, ⟨14, _⟩ => ⟨S2048x176, .f32⟩
  | .hbm, ⟨15, _⟩ => ⟨S2048x4864, .f32⟩
  | .hbm, ⟨16, _⟩ => ⟨S2048x4864, .bf16⟩
  | .hbm, ⟨17, _⟩ => ⟨S1x2048, .f32⟩
  | .hbm, ⟨18, _⟩ => ⟨S4x4096x4864, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x256, .bf16⟩
  | .local _ .vmem, ⟨8, _⟩ => ⟨S2048x256, .bf16⟩
  | .local _ .vmem, ⟨9, _⟩ => ⟨S1x1024x256, .f32⟩
  | .local _ .vmem, ⟨10, _⟩ => ⟨S1x1024x256, .f32⟩
  | .local _ .vmem, ⟨11, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 4, 19], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== InProjRefIdeal.lean ====
abbrev S4x4096x2048 : Shape := ⟨3, ![4, 4096, 2048]⟩
abbrev S2048 : Shape := ⟨1, ![2048]⟩
abbrev S4x1x2048 : Shape := ⟨3, ![4, 1, 2048]⟩
abbrev S2048x4688 : Shape := ⟨2, ![2048, 4688]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x4688 : Shape := ⟨3, ![4, 4096, 4688]⟩
abbrev S4x4096x512 : Shape := ⟨3, ![4, 4096, 512]⟩
abbrev S4x4096x64 : Shape := ⟨3, ![4, 4096, 64]⟩
abbrev S4x4096x1536 : Shape := ⟨3, ![4, 4096, 1536]⟩
abbrev S4x4096x1024 : Shape := ⟨3, ![4, 4096, 1024]⟩
abbrev S4x4096x16 : Shape := ⟨3, ![4, 4096, 16]⟩
abbrev S4x4096x176 : Shape := ⟨3, ![4, 4096, 176]⟩
abbrev S4x4096x4864 : Shape := ⟨3, ![4, 4096, 4864]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x4688, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S_, .f32⟩
  | .hbm, ⟨22, _⟩ => ⟨S4x1x2048, .f32⟩
  | .hbm, ⟨23, _⟩ => ⟨S4x1x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x4688, .f32⟩
  | .hbm, ⟨29, _⟩ => ⟨S4x4096x512, .f32⟩
  | .hbm, ⟨30, _⟩ => ⟨S4x4096x512, .f32⟩
  | .hbm, ⟨31, _⟩ => ⟨S4x4096x64, .f32⟩
  | .hbm, ⟨32, _⟩ => ⟨S4x4096x1536, .f32⟩
  | .hbm, ⟨33, _⟩ => ⟨S4x4096x1024, .f32⟩
  | .hbm, ⟨34, _⟩ => ⟨S4x4096x512, .f32⟩
  | .hbm, ⟨35, _⟩ => ⟨S4x4096x512, .f32⟩
  | .hbm, ⟨36, _⟩ => ⟨S4x4096x16, .f32⟩
  | .hbm, ⟨37, _⟩ => ⟨S_, .f32⟩
  | .hbm, ⟨38, _⟩ => ⟨S4x4096x176, .f32⟩
  | .hbm, ⟨39, _⟩ => ⟨S4x4096x4864, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== OutProj.lean ====
abbrev S4x4096x2048 : Shape := ⟨3, ![4, 4096, 2048]⟩
abbrev S2048x2048 : Shape := ⟨2, ![2048, 2048]⟩
abbrev S4x1x2048 : Shape := ⟨3, ![4, 1, 2048]⟩
abbrev S1x1024x2048 : Shape := ⟨3, ![1, 1024, 2048]⟩
abbrev S2048x512 : Shape := ⟨2, ![2048, 512]⟩
abbrev S1x1024x512 : Shape := ⟨3, ![1, 1024, 512]⟩
abbrev S1x1x512 : Shape := ⟨3, ![1, 1, 512]⟩
abbrev S1024x2048 : Shape := ⟨2, ![1024, 2048]⟩
abbrev S1024x512 : Shape := ⟨2, ![1024, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S4x4096x2048, .bf16⟩
  | .hbm, ⟨1, _⟩ => ⟨S2048x2048, .f32⟩
  | .hbm, ⟨2, _⟩ => ⟨S4x4096x2048, .f32⟩
  | .hbm, ⟨3, _⟩ => ⟨S4x1x2048, .f32⟩
  | .hbm, ⟨4, _⟩ => ⟨S2048x2048, .bf16⟩
  | .hbm, ⟨5, _⟩ => ⟨S4x4096x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .f32⟩
  | .local _ .vmem, ⟨5, _⟩ => ⟨S1x1024x512, .f32⟩
  | .local _ .vmem, ⟨6, _⟩ => ⟨S1x1x512, .f32⟩
  | .local _ .vmem, ⟨7, _⟩ => ⟨S1x1x512, .f32⟩
  | .local _ .vmem, ⟨8, _⟩ => ⟨S1x1024x512, .f32⟩
  | .local _ .vmem, ⟨9, _⟩ => ⟨S1x1024x512, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== OutProjRefIdeal.lean ====
abbrev S4x4096x2048 : Shape := ⟨3, ![4, 4096, 2048]⟩
abbrev S2048x2048 : Shape := ⟨2, ![2048, 2048]⟩
abbrev S4x1x2048 : Shape := ⟨3, ![4, 1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S2048x2048, .f32⟩
  | .hbm, ⟨2, _⟩ => ⟨S4x4096x2048, .f32⟩
  | .hbm, ⟨3, _⟩ => ⟨S4x1x2048, .f32⟩
  | .hbm, ⟨4, _⟩ => ⟨S4x4096x2048, .f32⟩
  | .hbm, ⟨5, _⟩ => ⟨S4x4096x2048, .f32⟩
  | .hbm, ⟨6, _⟩ => ⟨S4x4096x2048, .f32⟩
  | .hbm, ⟨7, _⟩ => ⟨S4x4096x2048, .f32⟩
  | .hbm, ⟨8, _⟩ => ⟨S4x4096x2048, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== QUp.lean ====
abbrev S4x4096x4864 : Shape := ⟨3, ![4, 4096, 4864]⟩
abbrev S512 : Shape := ⟨1, ![512]⟩
abbrev S512x1536 : Shape := ⟨2, ![512, 1536]⟩
abbrev S_ : Shape := ⟨0, ![]⟩
abbrev S4x1x512 : Shape := ⟨3, ![4, 1, 512]⟩
abbrev S1x512 : Shape := ⟨2, ![1, 512]⟩
abbrev S4x4096x1536 : Shape := ⟨3, ![4, 4096, 1536]⟩
abbrev S1x1024x512 : Shape := ⟨3, ![1, 1024, 512]⟩
abbrev S1x1x512 : Shape := ⟨3, ![1, 1, 512]⟩
abbrev S512x512 : Shape := ⟨2, ![512, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 8
  | .vmem => 12
  | .smem => 0
  | _ => 0

abbrev bufTy : (tb : Table) → Fin (tcTables nBuf tb) → BufTy
  | .hbm, ⟨0, _⟩ => ⟨S4x4096x4864, .f32⟩
  | .hbm, ⟨1, _⟩ => ⟨S512, .f32⟩
  | .hbm, ⟨2, _⟩ => ⟨S512x1536, .f32⟩
  | .hbm, ⟨3, _⟩ => ⟨S_, .f32⟩
  | .hbm, ⟨4, _⟩ => ⟨S4x1x512, .f32⟩
  | .hbm, ⟨5, _⟩ => ⟨S512x1536, .bf16⟩
  | .hbm, ⟨6, _⟩ => ⟨S1x512, .f32⟩
  | .hbm, ⟨7, _⟩ => ⟨S4x4096x1536, .f32⟩
  | .local _ .vmem, ⟨0, _⟩ => ⟨S1x1024x512, .f32⟩
  | .local _ .vmem, ⟨1, _⟩ => ⟨S1x1024x512, .f32⟩
  | .local _ .vmem, ⟨2, _⟩ => ⟨S1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S512x512, .bf16⟩
  | .local _ .vmem, ⟨8, _⟩ => ⟨S512x512, .bf16⟩
  | .local _ .vmem, ⟨9, _⟩ => ⟨S1x1024x512, .f32⟩
  | .local _ .vmem, ⟨10, _⟩ => ⟨S1x1024x512, .f32⟩
  | .local _ .vmem, ⟨11, _⟩ => ⟨S1024x512, .bf16⟩
  | _, _ => ⟨S4x4096x4864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 4, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== QUpRefIdeal.lean ====
abbrev S4x4096x4864 : Shape := ⟨3, ![4, 4096, 4864]⟩
abbrev S512 : Shape := ⟨1, ![512]⟩
abbrev S512x1536 : Shape := ⟨2, ![512, 1536]⟩
abbrev S4x4096x512 : Shape := ⟨3, ![4, 4096, 512]⟩
abbrev S_ : Shape := ⟨0, ![]⟩
abbrev S4x4096 : Shape := ⟨2, ![4, 4096]⟩
abbrev S4x4096x1 : Shape := ⟨3, ![4, 4096, 1]⟩
abbrev S1x1x512 : Shape := ⟨3, ![1, 1, 512]⟩
abbrev S4x4096x1536 : Shape := ⟨3, ![4, 4096, 1536]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x4864, .f32⟩
  | .hbm, ⟨1, _⟩ => ⟨S512, .f32⟩
  | .hbm, ⟨2, _⟩ => ⟨S512x1536, .f32⟩
  | .hbm, ⟨3, _⟩ => ⟨S4x4096x512, .f32⟩
  | .hbm, ⟨4, _⟩ => ⟨S4x4096x512, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x512, .f32⟩
  | .hbm, ⟨16, _⟩ => ⟨S4x4096x512, .f32⟩
  | .hbm, ⟨17, _⟩ => ⟨S1x1x512, .f32⟩
  | .hbm, ⟨18, _⟩ => ⟨S4x4096x512, .f32⟩
  | .hbm, ⟨19, _⟩ => ⟨S4x4096x512, .f32⟩
  | .hbm, ⟨20, _⟩ => ⟨S4x4096x1536, .f32⟩
  | _, _ => ⟨S4x4096x4864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== KvUp.lean ====
abbrev S4x4096x4864 : Shape := ⟨3, ![4, 4096, 4864]⟩
abbrev S512 : Shape := ⟨1, ![512]⟩
abbrev S512x2048 : Shape := ⟨2, ![512, 2048]⟩
abbrev S_ : Shape := ⟨0, ![]⟩
abbrev S4x1x512 : Shape := ⟨3, ![4, 1, 512]⟩
abbrev S1x512 : Shape := ⟨2, ![1, 512]⟩
abbrev S4x4096x2048 : Shape := ⟨3, ![4, 4096, 2048]⟩
abbrev S1x1024x512 : Shape := ⟨3, ![1, 1024, 512]⟩
abbrev S1x1x512 : Shape := ⟨3, ![1, 1, 512]⟩
abbrev S512x512 : Shape := ⟨2, ![512, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 8
  | .vmem => 12
  | .smem => 0
  | _ => 0

abbrev bufTy : (tb : Table) → Fin (tcTables nBuf tb) → BufTy
  | .hbm, ⟨0, _⟩ => ⟨S4x4096x4864, .f32⟩
  | .hbm, ⟨1, _⟩ => ⟨S512, .f32⟩
  | .hbm, ⟨2, _⟩ => ⟨S512x2048, .f32⟩
  | .hbm, ⟨3, _⟩ => ⟨S_, .f32⟩
  | .hbm, ⟨4, _⟩ => ⟨S4x1x512, .f32⟩
  | .hbm, ⟨5, _⟩ => ⟨S512x2048, .bf16⟩
  | .hbm, ⟨6, _⟩ => ⟨S1x512, .f32⟩
  | .hbm, ⟨7, _⟩ => ⟨S4x4096x2048, .f32⟩
  | .local _ .vmem, ⟨0, _⟩ => ⟨S1x1024x512, .f32⟩
  | .local _ .vmem, ⟨1, _⟩ => ⟨S1x1024x512, .f32⟩
  | .local _ .vmem, ⟨2, _⟩ => ⟨S1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S512x512, .bf16⟩
  | .local _ .vmem, ⟨8, _⟩ => ⟨S512x512, .bf16⟩
  | .local _ .vmem, ⟨9, _⟩ => ⟨S1x1024x512, .f32⟩
  | .local _ .vmem, ⟨10, _⟩ => ⟨S1x1024x512, .f32⟩
  | .local _ .vmem, ⟨11, _⟩ => ⟨S1024x512, .bf16⟩
  | _, _ => ⟨S4x4096x4864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, c1_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KvUpRefIdeal.lean ====
abbrev S4x4096x4864 : Shape := ⟨3, ![4, 4096, 4864]⟩
abbrev S512 : Shape := ⟨1, ![512]⟩
abbrev S512x2048 : Shape := ⟨2, ![512, 2048]⟩
abbrev S4x4096x512 : Shape := ⟨3, ![4, 4096, 512]⟩
abbrev S_ : Shape := ⟨0, ![]⟩
abbrev S4x4096 : Shape := ⟨2, ![4, 4096]⟩
abbrev S4x4096x1 : Shape := ⟨3, ![4, 4096, 1]⟩
abbrev S1x1x512 : Shape := ⟨3, ![1, 1, 512]⟩
abbrev S4x4096x2048 : Shape := ⟨3, ![4, 4096, 2048]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x4864, .f32⟩
  | .hbm, ⟨1, _⟩ => ⟨S512, .f32⟩
  | .hbm, ⟨2, _⟩ => ⟨S512x2048, .f32⟩
  | .hbm, ⟨3, _⟩ => ⟨S4x4096x512, .f32⟩
  | .hbm, ⟨4, _⟩ => ⟨S4x4096x512, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x512, .f32⟩
  | .hbm, ⟨16, _⟩ => ⟨S4x4096x512, .f32⟩
  | .hbm, ⟨17, _⟩ => ⟨S1x1x512, .f32⟩
  | .hbm, ⟨18, _⟩ => ⟨S4x4096x512, .f32⟩
  | .hbm, ⟨19, _⟩ => ⟨S4x4096x512, .f32⟩
  | .hbm, ⟨20, _⟩ => ⟨S4x4096x2048, .f32⟩
  | _, _ => ⟨S4x4096x4864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Ada.lean ====
abbrev S4x2048 : Shape := ⟨2, ![4, 2048]⟩
abbrev S2048 : Shape := ⟨1, ![2048]⟩
abbrev S2x2048x12288 : Shape := ⟨3, ![2, 2048, 12288]⟩
abbrev S2x12288 : Shape := ⟨2, ![2, 12288]⟩
abbrev S_ : Shape := ⟨0, ![]⟩
abbrev S1x2048 : Shape := ⟨2, ![1, 2048]⟩
abbrev S3x2048 : Shape := ⟨2, ![3, 2048]⟩
abbrev S8x2048 : Shape := ⟨2, ![8, 2048]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 29
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S4x2048, .f32⟩
  | .hbm, ⟨5, _⟩ => ⟨S4x2048, .f32⟩
  | .hbm, ⟨6, _⟩ => ⟨S_, .f32⟩
  | .hbm, ⟨7, _⟩ => ⟨S4x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S_, .f32⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S1x2048, .f32⟩
  | .hbm, ⟨23, _⟩ => ⟨S_, .f32⟩
  | .hbm, ⟨24, _⟩ => ⟨S3x2048, .f32⟩
  | .hbm, ⟨25, _⟩ => ⟨S8x2048, .f32⟩
  | .hbm, ⟨26, _⟩ => ⟨S8x2048, .bf16⟩
  | .hbm, ⟨27, _⟩ => ⟨S2x1x12288, .f32⟩
  | .hbm, ⟨28, _⟩ => ⟨S2x8x12288, .f32⟩
  | .local _ .vmem, ⟨0, _⟩ => ⟨S8x2048, .bf16⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S4x2048 : Shape := ⟨2, ![4, 2048]⟩
abbrev S2048 : Shape := ⟨1, ![2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S4x12288 : Shape := ⟨2, ![4, 12288]⟩
abbrev S1x12288 : Shape := ⟨2, ![1, 12288]⟩
abbrev S12288 : Shape := ⟨1, ![12288]⟩
abbrev S3x12288 : Shape := ⟨2, ![3, 12288]⟩
abbrev S8x12288 : Shape := ⟨2, ![8, 12288]⟩
abbrev S1x8x12288 : Shape := ⟨3, ![1, 8, 12288]⟩
abbrev S2x8x12288 : Shape := ⟨3, ![2, 8, 12288]⟩

abbrev nBuf : Space → Nat
  | .hbm => 63
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S4x2048, .f32⟩
  | .hbm, ⟨5, _⟩ => ⟨S4x2048, .f32⟩
  | .hbm, ⟨6, _⟩ => ⟨S_, .f32⟩
  | .hbm, ⟨7, _⟩ => ⟨S4x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S_, .f32⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S1x2048x12288, .f32⟩
  | .hbm, ⟨23, _⟩ => ⟨S2048x12288, .f32⟩
  | .hbm, ⟨24, _⟩ => ⟨S4x12288, .f32⟩
  | .hbm, ⟨25, _⟩ => ⟨S1x12288, .f32⟩
  | .hbm, ⟨26, _⟩ => ⟨S12288, .f32⟩
  | .hbm, ⟨27, _⟩ => ⟨S1x12288, .f32⟩
  | .hbm, ⟨28, _⟩ => ⟨S4x12288, .f32⟩
  | .hbm, ⟨29, _⟩ => ⟨S4x12288, .f32⟩
  | .hbm, ⟨30, _⟩ => ⟨S1x2048x12288, .f32⟩
  | .hbm, ⟨31, _⟩ => ⟨S2048x12288, .f32⟩
  | .hbm, ⟨32, _⟩ => ⟨S12288, .f32⟩
  | .hbm, ⟨33, _⟩ => ⟨S1x12288, .f32⟩
  | .hbm, ⟨34, _⟩ => ⟨S12288, .f32⟩
  | .hbm, ⟨35, _⟩ => ⟨S12288, .f32⟩
  | .hbm, ⟨36, _⟩ => ⟨S1x12288, .f32⟩
  | .hbm, ⟨37, _⟩ => ⟨S12288, .f32⟩
  | .hbm, ⟨38, _⟩ => ⟨S3x12288, .f32⟩
  | .hbm, ⟨39, _⟩ => ⟨S1x12288, .f32⟩
  | .hbm, ⟨40, _⟩ => ⟨S8x12288, .f32⟩
  | .hbm, ⟨41, _⟩ => ⟨S1x2048x12288, .f32⟩
  | .hbm, ⟨42, _⟩ => ⟨S2048x12288, .f32⟩
  | .hbm, ⟨43, _⟩ => ⟨S4x12288, .f32⟩
  | .hbm, ⟨44, _⟩ => ⟨S1x12288, .f32⟩
  | .hbm, ⟨45, _⟩ => ⟨S12288, .f32⟩
  | .hbm, ⟨46, _⟩ => ⟨S1x12288, .f32⟩
  | .hbm, ⟨47, _⟩ => ⟨S4x12288, .f32⟩
  | .hbm, ⟨48, _⟩ => ⟨S4x12288, .f32⟩
  | .hbm, ⟨49, _⟩ => ⟨S1x2048x12288, .f32⟩
  | .hbm, ⟨50, _⟩ => ⟨S2048x12288, .f32⟩
  | .hbm, ⟨51, _⟩ => ⟨S12288, .f32⟩
  | .hbm, ⟨52, _⟩ => ⟨S1x12288, .f32⟩
  | .hbm, ⟨53, _⟩ => ⟨S12288, .f32⟩
  | .hbm, ⟨54, _⟩ => ⟨S12288, .f32⟩
  | .hbm, ⟨55, _⟩ => ⟨S1x12288, .f32⟩
  | .hbm, ⟨56, _⟩ => ⟨S12288, .f32⟩
  | .hbm, ⟨57, _⟩ => ⟨S3x12288, .f32⟩
  | .hbm, ⟨58, _⟩ => ⟨S1x12288, .f32⟩
  | .hbm, ⟨59, _⟩ => ⟨S8x12288, .f32⟩
  | .hbm, ⟨60, _⟩ => ⟨S1x8x12288, .f32⟩
  | .hbm, ⟨61, _⟩ => ⟨S1x8x12288, .f32⟩
  | .hbm, ⟨62, _⟩ => ⟨S2x8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Proof.Softmax.lean ====
/-
  The pure facts about one row of softmax attention over the extended reals. Scores are reals; the values may be
  infinite. The kernel computes with base-2 exponentials of scores scaled by `1 / log 2` and divides once at the end;
  the reference computes with natural exponentials and divides every weight. `row_eq` says the two rows are equal.
-/
module

public import Idealize.ShloMosaic.PureOps.Ideal
public import Idealize.ShloMosaic.Lib.IdealHost

@[expose] public section

noncomputable section

open Idealize.ShloMosaic

namespace Cert.Proof

/-- The maximum over a finite index, started from `⊥`, is the value at any index where no value is exceeded. -/
theorem fold_max_eq {n : ℕ} (f : Fin n → EReal) (k₀ : Fin n) (h : ∀ k, f k ≤ f k₀) :
    Finset.univ.fold max ⊥ f = f k₀ :=
  le_antisymm (Finset.sup_le (f := f) fun k _ => h k) (Finset.le_sup (f := f) (Finset.mem_univ k₀))

/-- A finite sum of reals, taken among the extended reals, is the real sum. -/
theorem coe_sum {n : ℕ} (f : Fin n → ℝ) : (∑ k, (f k : EReal)) = ((∑ k, f k : ℝ) : EReal) :=
  (map_sum (⟨⟨Real.toEReal, rfl⟩, EReal.coe_add⟩ : ℝ →+ EReal) f Finset.univ).symm

/-- A sum of extended reals times a nonnegative real is the sum of the products, infinite terms included. -/
theorem sum_mul_coe {n : ℕ} (f : Fin n → EReal) (z : ℝ) (hz : 0 ≤ z) : (∑ k, f k) * (z : EReal) = ∑ k, f k * (z : EReal) :=
  map_sum (⟨⟨(· * (z : EReal)), zero_mul _⟩,
    fun x y => EReal.right_distrib_of_nonneg_of_ne_top (EReal.coe_nonneg.2 hz) (EReal.coe_ne_top z) x y⟩ : EReal →+ EReal)
    f Finset.univ

/-- A base-2 exponential of `a / log 2` is the natural exponential of `a`. -/
theorem rpow_two_div_log (a : ℝ) : Real.rpow 2 (a * (Real.log 2)⁻¹) = Real.exp a := by
  have h : Real.log 2 ≠ 0 := (Real.log_pos (by norm_num)).ne'
  show (2 : ℝ) ^ (a * (Real.log 2)⁻¹) = _
  rw [Real.rpow_def_of_pos (by norm_num)]
  congr 1
  field_simp

/-- One row of attention: for real scores `a`, the kernel's row (base 2, scores scaled by `1 / log 2`, one division) is
    the reference's row (natural exponentials, every weight divided). -/
theorem row_eq {n : ℕ} [NeZero n] (a : Fin n → ℝ) (s r v : Fin n → EReal)
    (hs : ∀ k, s k = ((a k * (Real.log 2)⁻¹ : ℝ) : EReal)) (hr : ∀ k, r k = ((a k : ℝ) : EReal)) :
    Ideal.div (∑ k, v k * Ideal.exp2 (s k - Finset.univ.fold max ⊥ s)) (∑ k, Ideal.exp2 (s k - Finset.univ.fold max ⊥ s))
      = ∑ k, Ideal.div (Ideal.exp (r k - max ⊥ (Finset.univ.fold max ⊥ r)))
          (∑ l, Ideal.exp (r l - max ⊥ (Finset.univ.fold max ⊥ r))) * v k := by
  obtain ⟨k₀, hk⟩ := Finite.exists_max a
  have hl : 0 < (Real.log 2)⁻¹ := inv_pos.2 (Real.log_pos (by norm_num))
  have ms : Finset.univ.fold max ⊥ s = ((a k₀ * (Real.log 2)⁻¹ : ℝ) : EReal) := by
    rw [fold_max_eq s k₀ fun k => by rw [hs, hs]; exact EReal.coe_le_coe_iff.2 (mul_le_mul_of_nonneg_right (hk k) hl.le), hs]
  have mr : Finset.univ.fold max ⊥ r = ((a k₀ : ℝ) : EReal) := by
    rw [fold_max_eq r k₀ fun k => by rw [hr, hr]; exact EReal.coe_le_coe_iff.2 (hk k), hr]
  have es : ∀ k, Ideal.exp2 (s k - Finset.univ.fold max ⊥ s) = ((Real.exp (a k - a k₀) : ℝ) : EReal) := fun k => by
    rw [ms, hs, ← EReal.coe_sub, ← sub_mul, Ideal.exp2_coe, rpow_two_div_log]
  have er : ∀ k, Ideal.exp (r k - max ⊥ (Finset.univ.fold max ⊥ r)) = ((Real.exp (a k - a k₀) : ℝ) : EReal) := fun k => by
    rw [mr, hr, max_eq_right bot_le, ← EReal.coe_sub, Ideal.exp_coe]
  have hz : 0 < ∑ k, Real.exp (a k - a k₀) := Finset.sum_pos (fun k _ => Real.exp_pos _) Finset.univ_nonempty
  simp only [es, er, coe_sum, Ideal.div_coe hz.ne']
  rw [sum_mul_coe _ _ (one_div_pos.2 hz).le]
  refine Finset.sum_congr rfl fun k _ => ?_
  rw [mul_comm (v k), mul_assoc, mul_comm (v k), ← mul_assoc]

end Cert.Proof

end
-- ==== Proof.Consts.lean ====
/-
  The float constants of the attention call and of the precondition, as the extended reals they denote.
-/
module

public import Idealize.ShloMosaic.PureOps.Ideal

@[expose] public section

noncomputable section

namespace Cert.Proof

open Idealize.ShloMosaic

/-- `192.0`, the width of a head, denotes the real 192. -/
theorem ofBits_192 : Ideal.ofBits .f32 0x43400000#32 = ((192 : ℝ) : EReal) := by
  simp [Ideal.ofBits, Ideal.ieee, -EReal.coe_mul]; norm_num

/-- The pattern of minus infinity denotes `⊥`. -/
theorem ofBits_neg_inf : Ideal.ofBits .f32 0xFF800000#32 = ⊥ := by
  simp [Ideal.ofBits, Ideal.ieee]

/-- The pattern of plus infinity denotes `⊤`. -/
theorem ofBits_inf : Ideal.ofBits .f32 0x7F800000#32 = ⊤ := by
  simp [Ideal.ofBits, Ideal.ieee]

end Cert.Proof

end
-- ==== Proof.AttnValue.lean ====
/-
  The attention call computes its reference, when the queries and the keys are finite. A grid point takes one batch,
  one head and 256 query rows, with all 4352 keys and values of the head. The kernel keeps the scores transposed (keys
  down, queries across), multiplies the queries by the named constant `1 / (√192 log 2)`, takes base-2 exponentials, and
  divides once, after the product with the values; the reference scales the scores by `1 / √192`, takes natural
  exponentials, and divides every weight. The channels 192 to 255 the kernel pads are zero.
-/
module

public import proofs.«01_k».proof.Defs
public import proofs.«01_k».proof.Proof.Gen.Attn.Frame
public import proofs.«01_k».proof.Proof.Gen.AttnIdeal.Value
public import proofs.«01_k».proof.Proof.Gen.AttnRefIdeal.Run
public import proofs.«01_k».proof.Proof.Gen.Pre_finite_qk
public import proofs.«01_k».proof.Proof.Softmax
public import proofs.«01_k».proof.Proof.Consts
public import Idealize.ShloMosaic.Lib.Pipeline.ValueKit
public import Idealize.ShloMosaic.Lib.Pointwise
public import Idealize.ShloMosaic.Lib.Quiescent
public import Idealize.ShloMosaic.Lib.ReduceAll
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnIdeal.Bridge

open Cert.AttnIdeal Cert.AttnIdeal.Gen

variable (m : (ℓ : Loc nD τ sig) → Buf (Elt Ideal) ℓ) (ρ : Dev nD → PrngReg)

section Reference

open Cert.AttnRefIdeal Cert.AttnRefIdeal.Gen

/-- The reference's scores: the products of query rows with key rows, times `1 / √192`. -/
abbrev SCORES (q : FVec Ideal S4x4096x8x192 .f32) (k : FVec Ideal S4x4352x8x192 .f32) : FVec Ideal S4x8x4096x4352 .f32 :=
  mulf (Host.dotGeneral dot_S4x8x4096x192_S4x8x4352x192_S4x8x4096x4352_3_3_2_2_01_01 none
      (transpose S4x8x4096x192 [0, 2, 1, 3] q transposes_S4x4096x8x192_S4x8x4096x192_0_2_1_3)
      (transpose S4x8x4352x192 [0, 2, 1, 3] k transposes_S4x4352x8x192_S4x8x4352x192_0_2_1_3))
    (broadcastInDim S4x8x4096x4352 ![] bcast_S_S4x8x4096x4352 (Host.rsqrt (constant S_ .f32 0x43400000#32)))

/-- The reference's row maxima of the scores, from minus infinity. -/
abbrev MAXS (s : FVec Ideal S4x8x4096x4352 .f32) : FVec Ideal S4x8x4096 .f32 :=
  Host.reduce FloatOps.maximumf s (constant S_ .f32 0xFF800000#32) reducesTo_S4x8x4096x4352_S4x8x4096_d3 Cert.AttnRefIdeal.Gen.h_S_

/-- The reference's exponentials of the scores below the maximum `x` of their row. -/
abbrev EXPS (s : FVec Ideal S4x8x4096x4352 .f32) (x : FVec Ideal S4x8x4096 .f32) : FVec Ideal S4x8x4096x4352 .f32 :=
  Host.exp (subf s (broadcastInDim S4x8x4096x4352 ![0, 1, 2, 3] bcast_S4x8x4096x1_S4x8x4096x4352_0_1_2_3
    (broadcastInDim S4x8x4096x1 ![0, 1, 2] bcast_S4x8x4096_S4x8x4096x1_0_1_2
      (maximumf (broadcastInDim S4x8x4096 ![] bcast_S_S4x8x4096 (constant S_ .f32 0xFF800000#32)) x))))

/-- The reference's weights times the values, head by head. -/
abbrev MIX (e : FVec Ideal S4x8x4096x4352 .f32) (v : FVec Ideal S4x4352x8x128 .f32) : FVec Ideal S4x8x4096x128 .f32 :=
    (Host.dotGeneral dot_S4x8x4096x4352_S4x8x4352x128_S4x8x4096x128_3_2_2_3_01_01 none
      (Host.divf e (broadcastInDim S4x8x4096x4352 ![0, 1, 2, 3] bcast_S4x8x4096x1_S4x8x4096x4352_0_1_2_3
        (broadcastInDim S4x8x4096x1 ![0, 1, 2] bcast_S4x8x4096_S4x8x4096x1_0_1_2
          (Host.reduceAdd e (constant S_ .f32 0x00000000#32) reducesTo_S4x8x4096x4352_S4x8x4096_d3 Cert.AttnRefIdeal.Gen.h_S_))))
      (transpose S4x8x4352x128 [0, 2, 1, 3] v transposes_S4x4352x8x128_S4x8x4352x128_0_2_1_3))

/-- The heads side by side and the rows last. -/
abbrev JOIN (o : FVec Ideal S4x8x4096x128 .f32) : FVec Ideal S4x1024x4096 .f32 :=
  transpose S4x1024x4096 [0, 2, 1] (shapeCast S4x4096x1024 (transpose S4x4096x8x128 [0, 2, 1, 3] o
    transposes_S4x8x4096x128_S4x4096x8x128_0_2_1_3) shapeCasts_S4x4096x8x128_S4x4096x1024) transposes_S4x4096x1024_S4x1024x4096_0_2_1

end Reference

/-- The reference's scores of the argument arrays of device `c`. -/
abbrev scores (c : Dev nD) : FVec Ideal Cert.AttnRefIdeal.S4x8x4096x4352 .f32 :=
  SCORES (m ((c : Thread nD τ).loc main_arg0)) (m ((c : Thread nD τ).loc main_arg1))

/-- What the result array of device `c` is shown to hold: the reference's term of the argument arrays. -/
abbrev result (c : Dev nD) : Buf (Elt Ideal) ((c : Thread nD τ).loc main_v7) :=
  JOIN (MIX (EXPS (scores m c) (MAXS (scores m c))) (m ((c : Thread nD τ).loc main_arg2)))

/-- The block index of every window at every grid point: batch `t / 128`, head `t / 16 % 8`, query tile `t % 16`. -/
theorem idx : ∀ t : Fin cfg0.N,
    win0_0.index t = ![t.val / 128, t.val / 16 % 8, 0, t.val % 16]
    ∧ win0_1.index t = ![t.val / 128, t.val / 16 % 8, 0, 0] ∧ win0_2.index t = ![t.val / 128, t.val / 16 % 8, 0, 0]
    ∧ win0_3.index t = ![t.val / 128, t.val / 16 % 8, t.val % 16] :=
  (by decide +kernel : ∀ t : Fin grid0.N, _)

/-- The grid has 512 points. -/
theorem lt_grid (t : Fin cfg0.N) : t.val < 512 := lt_of_lt_of_eq t.isLt N_0

/-- The kernel's query array: the padded queries, the head before the channel and the row last. -/
abbrev QT (q : FVec Ideal S4x4096x8x192 .f32) : FVec Ideal S4x8x256x4096 .f32 :=
  transpose S4x8x256x4096 [0, 2, 3, 1] (pad S4x4096x8x256 ![0, 0, 0, 0] ![0, 0, 0, 64] ![0, 0, 0, 0] q
    (sitofp .f32 (constantI S_ 32 0#32)) pads_S4x4096x8x192_S4x4096x8x256_000_000_000_0640 h_S_)
    transposes_S4x4096x8x256_S4x8x256x4096_0_2_3_1

/-- The kernel's key array: the padded keys, the head before the row. -/
abbrev KT (k : FVec Ideal S4x4352x8x192 .f32) : FVec Ideal S4x8x4352x256 .bf16 :=
  transpose S4x8x4352x256 [0, 2, 1, 3] (truncf .bf16 (pad S4x4352x8x256 ![0, 0, 0, 0] ![0, 0, 0, 64] ![0, 0, 0, 0] k
    (sitofp .f32 (constantI S_ 32 0#32)) pads_S4x4352x8x192_S4x4352x8x256_000_000_000_0640 h_S_) bitsLt_bf16_f32)
    transposes_S4x4352x8x256_S4x8x4352x256_0_2_1_3

/-- The kernel's value array: the head before the channel and the row last. -/
abbrev VT (v : FVec Ideal S4x4352x8x128 .f32) : FVec Ideal S4x8x128x4352 .bf16 :=
  transpose S4x8x128x4352 [0, 2, 3, 1] (truncf .bf16 v bitsLt_bf16_f32) transposes_S4x4352x8x128_S4x8x128x4352_0_2_3_1

/-- The padding value, the integer 0 as a float, is 0. -/
theorem pad_zero : (FloatOps.sitofp .f32 (0#32) : Ideal .f32) = (0 : EReal) := by
  show ((((0#32).toInt : ℝ) : EReal)) = 0
  simp

/-- A channel of the kernel's queries: the query's channel below 192, and 0 above. -/
theorem qt_at (q : FVec Ideal S4x4096x8x192 .f32) (b : Fin 4) (h : Fin 8) (j : Fin 256) (r : Fin 4096) :
    QT q (ix4 b h j r) = if hj : j.val < 192 then q (ix4 b r h ⟨j.val, hj⟩) else (0 : EReal) := by
  pointwise [QT, pad_zero]

/-- A channel of the kernel's keys: the key's channel below 192, and 0 above. -/
theorem kt_at (k : FVec Ideal S4x4352x8x192 .f32) (b : Fin 4) (h : Fin 8) (l : Fin 4352) (j : Fin 256) :
    KT k (ix4 b h l j) = if hj : j.val < 192 then k (ix4 b l h ⟨j.val, hj⟩) else (0 : EReal) := by
  pointwise [KT, pad_zero]

/-- One of the reference's scores. -/
theorem scores_at (q k) (b : Fin 4) (h : Fin 8) (r : Fin 4096) (l : Fin 4352) :
    SCORES q k (ix4 b h r l)
      = ((∑ j : Fin 192, q (ix4 b r h j) * k (ix4 b l h j)) * Ideal.rsqrt (Ideal.ofBits .f32 0x43400000#32) : EReal) := by
  pointwise [SCORES]

/-- One of the reference's row maxima. -/
theorem maxs_at (s) (b : Fin 4) (h : Fin 8) (r : Fin 4096) :
    MAXS s (ix3 b h r)
      = (Finset.univ.fold max (Ideal.ofBits .f32 0xFF800000#32) fun k : Fin 4352 => s (ix4 b h r k) : EReal) := by
  pointwise [MAXS]

/-- One of the reference's exponentials. -/
theorem exps_at (s x) (b : Fin 4) (h : Fin 8) (r : Fin 4096) (l : Fin 4352) :
    EXPS s x (ix4 b h r l)
      = (Ideal.exp (s (ix4 b h r l) - max (Ideal.ofBits .f32 0xFF800000#32) (x (ix3 b h r))) : EReal) := by
  pointwise [EXPS]

/-- One entry of the reference's weights times the values. -/
theorem mix_at (e v) (b : Fin 4) (h : Fin 8) (r : Fin 4096) (d : Fin 128) :
    MIX e v (ix4 b h r d)
      = (∑ l : Fin 4352, Ideal.div (e (ix4 b h r l)) (∑ k : Fin 4352, e (ix4 b h r k)) * v (ix4 b l h d) : EReal) := by
  pointwise [MIX]

/-- Row `128 h + d` of the reference's result is channel `d` of head `h`. -/
theorem join_at (o) (b : Fin 4) (h : Fin 8) (d : Fin 128) (r : Fin 4096) :
    JOIN o (ix3 b ⟨h.val * 128 + d.val, by omega⟩ r) = o (ix4 b h r d) := by
  pointwise [JOIN]
  blk_ext

/-- What a grid point stores, as a function of the blocks it reads. -/
theorem pay_at (q : FVec Ideal S1x1x256x256 .f32) (k : FVec Ideal S1x1x4352x256 .bf16) (v : FVec Ideal S1x1x128x4352 .bf16)
    (d : Fin 128) (r : Fin 256) (s : Fin 4352 → EReal)
    (hs : ∀ l, s l = (∑ j : Fin 256, k (ix4 0 0 l j) * (q (ix4 0 0 j r) * Named.named (F := Ideal) κ "scale_log2e" (φ := .f32) 0x3DD53B95#32) : EReal)) :
    k0_pay1 (F := Ideal) q k v (ix3 0 d r)
      = (Ideal.div (∑ l : Fin 4352, v (ix4 0 0 d l) * Ideal.exp2 (s l - Finset.univ.fold max (Ideal.ofBits .f32 0xFF800000#32) s))
          (∑ l : Fin 4352, Ideal.exp2 (s l - Finset.univ.fold max (Ideal.ofBits .f32 0xFF800000#32) s)) : EReal) := by
  have e : s = fun l => (∑ j : Fin 256, k (ix4 0 0 l j) * (q (ix4 0 0 j r) * Named.named (F := Ideal) κ "scale_log2e" (φ := .f32) 0x3DD53B95#32) : EReal) := funext hs
  subst e
  pointwise [k0_pay1]
  rfl

/-- The block of queries a point reads. -/
theorem qblk (c : Dev nD) (t : Fin cfg0.N) (j r : Fin 256) :
    (show FVec Ideal S1x1x256x256 .f32 from iblk m c 0 t) (ix4 0 0 j r)
      = QT (m ((c : Thread nD τ).loc main_arg0)) (ix4 ⟨t.val / 128, by have := lt_grid t; omega⟩
          ⟨t.val / 16 % 8, by omega⟩ j ⟨t.val % 16 * 256 + r.val, by omega⟩) := by
  have e : V m c main_v1 = QT (m ((c : Thread nD τ).loc main_arg0)) := by
    entry_read; rfl
  show V m c main_v1 (((cfg0.win 0).blk t).view.emb (ix4 0 0 j r)) = _
  rw [e]
  blk_ext [idx t]

/-- The block of keys a point reads. -/
theorem kblk (c : Dev nD) (t : Fin cfg0.N) (l : Fin 4352) (j : Fin 256) :
    (show FVec Ideal S1x1x4352x256 .bf16 from iblk m c 1 t) (ix4 0 0 l j)
      = KT (m ((c : Thread nD τ).loc main_arg1)) (ix4 ⟨t.val / 128, by have := lt_grid t; omega⟩
          ⟨t.val / 16 % 8, by omega⟩ l j) := by
  have e : V m c main_v4 = KT (m ((c : Thread nD τ).loc main_arg1)) := by
    entry_read; rfl
  show V m c main_v4 (((cfg0.win 1).blk t).view.emb (ix4 0 0 l j)) = _
  rw [e]
  blk_ext [idx t]

/-- The block of values a point reads. -/
theorem vblk (c : Dev nD) (t : Fin cfg0.N) (d : Fin 128) (l : Fin 4352) :
    (show FVec Ideal S1x1x128x4352 .bf16 from iblk m c 2 t) (ix4 0 0 d l)
      = (show FVec Ideal S4x4352x8x128 .f32 from m ((c : Thread nD τ).loc main_arg2)) (ix4 ⟨t.val / 128, by have := lt_grid t; omega⟩
          l ⟨t.val / 16 % 8, by omega⟩ d) := by
  have e : V m c main_v6 = VT (m ((c : Thread nD τ).loc main_arg2)) := by
    entry_read; rfl
  show V m c main_v6 (((cfg0.win 2).blk t).view.emb (ix4 0 0 d l)) = _
  rw [e]
  pointwise [VT]
  blk_ext [idx t]

/-- A contraction over the 256 padded channels is the contraction over the 192 channels. -/
theorem sum_pad (a b : Fin 192 → EReal) (z : EReal) :
    ∑ j : Fin 256, (if h : j.val < 192 then a ⟨j.val, h⟩ else 0) * ((if h : j.val < 192 then b ⟨j.val, h⟩ else 0) * z)
      = ∑ j : Fin 192, a j * (b j * z) := by
  rw [Fin.sum_univ_add (a := 192) (b := 64)]
  simp

/-- The kernel's score of a query row and a key row, when both are real: the reference's score divided by `log 2`. -/
theorem score_kernel (a b : Fin 192 → ℝ) :
    ∑ j : Fin 192, (a j : EReal) * ((b j : EReal) * Named.named (F := Ideal) κ "scale_log2e" (φ := .f32) 0x3DD53B95#32)
      = (((∑ j, b j * a j) * (Real.sqrt 192)⁻¹ * (Real.log 2)⁻¹ : ℝ) : EReal) := by
  have e : Named.named (F := Ideal) κ "scale_log2e" (φ := .f32) 0x3DD53B95#32
      = (((Real.sqrt 192)⁻¹ * (Real.log 2)⁻¹ : ℝ) : EReal) := IdealRules.named_const.ideal_named_scalar _ _ _ _ rfl
  rw [e]
  simp only [← EReal.coe_mul]
  rw [Cert.Proof.coe_sum, mul_assoc, Finset.sum_mul]
  exact congrArg _ (Finset.sum_congr rfl fun j _ => by ring)

/-- The reference's score of a query row and a key row, when both are real. -/
theorem score_ref (a b : Fin 192 → ℝ) :
    (∑ j : Fin 192, (b j : EReal) * (a j : EReal)) * Ideal.rsqrt (Ideal.ofBits .f32 0x43400000#32)
      = (((∑ j, b j * a j) * (Real.sqrt 192)⁻¹ : ℝ) : EReal) := by
  simp only [← EReal.coe_mul]
  rw [Cert.Proof.coe_sum, Cert.Proof.ofBits_192, Ideal.rsqrt_coe, if_neg (by norm_num), if_neg (by norm_num), ← EReal.coe_mul]

/-- An extended real whose absolute value is below plus infinity is real. -/
theorem real_of_abs_lt (x : EReal) (h : Ideal.cmp .olt (max x (-x)) (Ideal.ofBits .f32 0x7F800000#32) = 1#1) :
    x = ((x.toReal : ℝ) : EReal) := by
  rw [Cert.Proof.ofBits_inf] at h
  have h' : max x (-x) < ⊤ := by
    by_contra hn
    simp [Ideal.cmp, hn] at h
  rw [EReal.coe_toReal]
  · exact fun e => by simp [e] at h'
  · exact fun e => by simp [e] at h'

/-- The precondition says that every entry of the queries and of the keys is real. -/
theorem finite (q k v) (h : Cert.Pre_finite_qk.fn (F := Ideal) q k v = fun _ => 1#1) :
    (∀ i, (q i : EReal) = ((EReal.toReal (q i) : ℝ) : EReal)) ∧ (∀ i, (k i : EReal) = ((EReal.toReal (k i) : ℝ) : EReal)) := by
  have h0 := congrFun h ix0
  dsimp only [Cert.Pre_finite_qk.fn] at h0
  obtain ⟨h1, h2⟩ := IntOp.andi_eq_one.1 h0
  haveI : Subsingleton Cert.Pre_finite_qk.S_.Idx := ⟨fun a b => funext fun i => i.elim0⟩
  exact ⟨fun i => real_of_abs_lt _ (Host.reduce_andi_all _ _ _ _ _ h1 i),
    fun i => real_of_abs_lt _ (Host.reduce_andi_all _ _ _ _ _ h2 i)⟩

/-- What point `t` stores at block index `y` is the reference at the array index where `y` sits. -/
theorem point (hm : Cert.Pre_AttnIdeal_finite_qk m) (c : Dev nD) (t : Fin cfg0.N) (d : Fin 128) (r : Fin 256) :
    k0_pay1 (iblk m c 0 t) (iblk m c 1 t) (iblk m c 2 t) (ix3 0 d r)
      = result m c (ix3 ⟨t.val / 128, by have := lt_grid t; omega⟩ ⟨t.val / 16 % 8 * 128 + d.val, by omega⟩
          ⟨t.val % 16 * 256 + r.val, by omega⟩) := by
  obtain ⟨hq, hk⟩ := finite _ _ _ (hm c)
  rw [pay_at _ _ _ d r _ fun l => rfl]
  simp only [result]
  rw [join_at _ _ ⟨t.val / 16 % 8, by omega⟩ d, mix_at]
  simp only [exps_at, maxs_at, vblk, kblk, qblk, qt_at, kt_at, Cert.Proof.ofBits_neg_inf]
  refine Cert.Proof.row_eq (fun l => (∑ j : Fin 192,
      EReal.toReal (m ((c : Thread nD τ).loc main_arg0) (ix4 ⟨t.val / 128, by have := lt_grid t; omega⟩
        ⟨t.val % 16 * 256 + r.val, by omega⟩ ⟨t.val / 16 % 8, by omega⟩ j))
      * EReal.toReal (m ((c : Thread nD τ).loc main_arg1) (ix4 ⟨t.val / 128, by have := lt_grid t; omega⟩
        l ⟨t.val / 16 % 8, by omega⟩ j))) * (Real.sqrt 192)⁻¹) _ _ _ (fun l => ?_) (fun l => ?_)
  · rw [← score_kernel]
    refine (sum_pad (fun j => m ((c : Thread nD τ).loc main_arg1) (ix4 ⟨t.val / 128, by have := lt_grid t; omega⟩
        l ⟨t.val / 16 % 8, by omega⟩ j)) (fun j => m ((c : Thread nD τ).loc main_arg0) (ix4 ⟨t.val / 128, by have := lt_grid t; omega⟩
        ⟨t.val % 16 * 256 + r.val, by omega⟩ ⟨t.val / 16 % 8, by omega⟩ j)) _).trans ?_
    exact Finset.sum_congr rfl fun j _ => by rw [← hq, ← hk]
  · rw [← score_ref]
    refine (scores_at _ _ _ _ _ _).trans ?_
    exact congrArg (· * _) (Finset.sum_congr rfl fun j _ => by rw [← hq, ← hk])

/-- The result array after the run is the reference's term of the argument arrays. -/
theorem final (hm : Cert.Pre_AttnIdeal_finite_qk m) (c : Dev nD) : (dats m 0 c).arrAt 3 cfg0.N = result m c := by
  refine (dats m 0 c).arrAt_eq_of_covers 3 _ (by decide +kernel) fun t _ y => ?_
  blk_simp
  rw [after0_3]; frame_out
  obtain ⟨b, d, r, rfl⟩ : ∃ (b : Fin 1) (d : Fin 128) (r : Fin 256), y = ix3 b d r := ⟨y 0, y 1, y 2, eq_ix3 y⟩
  rw [Subsingleton.elim b 0]
  refine (point m hm c t d r).trans ?_
  blk_ext [idx t]

end Cert.AttnIdeal.Bridge

namespace Cert.Proof.AttnClaims

/-- The call runs to its end and leaves its arguments as they were. -/
theorem frame : Cert.quiescent_Attn := fun m ρ _ => Cert.Attn.Gen.frame m ρ
/-- So does the call over the extended reals. -/
theorem frameIdeal : Cert.quiescent_AttnIdeal := fun m ρ _ => Cert.AttnIdeal.Gen.frame m ρ
/-- And so under the precondition. -/
theorem frameIdealPre : Cert.quiescent_AttnIdeal_pre_finite_qk := fun m ρ _ => Cert.AttnIdeal.Gen.frame m ρ
/-- So does the reference over the extended reals. -/
theorem frameRef : Cert.quiescent_AttnRefIdeal := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)
/-- And so under the precondition. -/
theorem frameRefPre : Cert.quiescent_AttnRefIdeal_pre_finite_qk := fun m ρ _ => frameRef m ρ trivial

/-- The idealization's one rewrite names the constant `1 / (√192 log 2)`. -/
theorem preserves : Cert.preserves_Attn_AttnIdeal := IdealRules.named_const.statement _ _ _ _ _ rfl

/-- The kernel call and its reference leave the same result array, and both leave their arguments as they were. -/
theorem algebraic : Cert.algebraic_AttnIdeal_AttnRefIdeal_pre_finite_qk := by
  intro m ρ m' ρ' hm hag
  refine ⟨Cert.AttnIdeal.Bridge.result m,
    (θ_run Cert.AttnIdeal.defs _ _).mono (fun _ h c => ⟨(h c).1.trans (Cert.AttnIdeal.Bridge.final m hm c), (h c).2⟩)
      (Cert.AttnIdeal.Value.run_blocks (F := Ideal) m ρ), ?_⟩
  refine (θ_run Cert.AttnRefIdeal.defs _ _).mono (fun _ h c => ⟨(h c).1.trans ?_, (h c).2⟩)
    (Cert.AttnRefIdeal.Value.run (F := Ideal) m' ρ')
  rw [(hag c).1, (hag c).2.1, (hag c).2.2]

end Cert.Proof.AttnClaims

end
-- ==== Proof.Rows.lean ====
/-
  The normalised and modulated rows that two calls of the layer start from (the up projection of the feed-forward part
  and the joint input projection): the term both references compute from the hidden states, the weight of the
  normalisation, and the scale and shift of the modulation.
-/
module

public import proofs.«01_k».proof.Defs
public import proofs.«01_k».proof.Proof.Gen.FfnUpRefIdeal

@[expose] public section

set_option maxRecDepth 16384

noncomputable section

open Idealize.ShloMosaic Idealize.ShloMosaic.TcCoe Idealize.SL.Sem

namespace Cert.Proof

open Cert.FfnUpRefIdeal Cert.FfnUpRefIdeal.Gen

/-- The reference's normalised and modulated rows: `x / sqrt(mean x² + ε) * g * (1 + sc) + sh`. -/
def NORM (x : FVec Ideal S4x4096x2048 .f32) (g : FVec Ideal S2048 .f32) (sc sh : FVec Ideal S4x1x2048 .f32) :
    FVec Ideal S4x4096x2048 .f32 :=
  addf (mulf (mulf (mulf x
      (broadcastInDim S4x4096x2048 ![0, 1, 2] bcast_S4x4096x1_S4x4096x2048_0_1_2
        (Host.rsqrt (addf (Host.divf
          (broadcastInDim S4x4096x1 ![0, 1] bcast_S4x4096_S4x4096x1_0_1
            (Host.reduceAdd (mulf x x) (constant S_ .f32 0x00000000#32) reducesTo_S4x4096x2048_S4x4096_d2 h_S_))
          (broadcastInDim S4x4096x1 ![] bcast_S_S4x4096x1 (constant S_ .f32 0x45000000#32)))
          (broadcastInDim S4x4096x1 ![] bcast_S_S4x4096x1 (constant S_ .f32 0x358637BD#32))))))
      (broadcastInDim S4x4096x2048 ![0, 1, 2] bcast_S1x1x2048_S4x4096x2048_0_1_2
        (broadcastInDim S1x1x2048 ![2] bcast_S2048_S1x1x2048_2 g)))
      (broadcastInDim S4x4096x2048 ![0, 1, 2] bcast_S4x1x2048_S4x4096x2048_0_1_2
        (addf (broadcastInDim S4x1x2048 ![] bcast_S_S4x1x2048 (constant S_ .f32 0x3F800000#32)) sc)))
    (broadcastInDim S4x4096x2048 ![0, 1, 2] bcast_S4x1x2048_S4x4096x2048_0_1_2 sh)

end Cert.Proof

end
-- ==== Proof.FfnUpValue.lean ====
/-
  The call `ffn_up` (root-mean-square normalisation, modulation by a shift and a scale per channel, product with a
  weight matrix of two halves, and the gated product `silu(a) * b` of the halves) computes its reference.
  At the first of every run of 11 grid points the kernel stores the normalised, modulated rows in a scratch buffer
  and at the ten other points of the run it reads them back; so the proof has three steps: what the scratch is given,
  that it still holds it at every point of the run, and what each point then stores.
-/
module

public import proofs.«01_k».proof.Defs
public import proofs.«01_k».proof.Proof.Rows
public import proofs.«01_k».proof.Proof.Gen.FfnUp.Frame
public import proofs.«01_k».proof.Proof.Gen.FfnUpIdeal.Value
public import proofs.«01_k».proof.Proof.Gen.FfnUpRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnUpIdeal.Bridge

open Cert.FfnUpIdeal Cert.FfnUpIdeal.Gen

variable (m : (ℓ : Loc nD τ sig) → Buf (Elt Ideal) ℓ) (ρ : Dev nD → PrngReg)

section Reference

open Cert.FfnUpRefIdeal Cert.FfnUpRefIdeal.Gen

/-- The reference's gated product of the halves of `xn · w`: `silu(a) * b`, for rows `xn` already normalised. -/
abbrev GATED (xn : FVec Ideal S4x4096x2048 .f32) (w : FVec Ideal S2048x11264 .f32) : FVec Ideal S4x4096x5632 .bf16 :=
  truncf .bf16 (mulf
    (mulf (extractStridedSlice S4x4096x5632 ![0, 0, 0] (Host.dotGeneral dot_S4x4096x2048_S2048x11264_S4x4096x11264_2_0_01_1_n_n none xn w) slices_S4x4096x11264_S4x4096x5632_0_0_0)
      (Host.divf (broadcastInDim S4x4096x5632 ![] bcast_S_S4x4096x5632 (constant S_ .f32 0x3F800000#32))
        (addf (broadcastInDim S4x4096x5632 ![] bcast_S_S4x4096x5632 (constant S_ .f32 0x3F800000#32))
          (Host.exp (Host.negf (extractStridedSlice S4x4096x5632 ![0, 0, 0] (Host.dotGeneral dot_S4x4096x2048_S2048x11264_S4x4096x11264_2_0_01_1_n_n none xn w) slices_S4x4096x11264_S4x4096x5632_0_0_0))))))
    (extractStridedSlice S4x4096x5632 ![0, 0, 5632] (Host.dotGeneral dot_S4x4096x2048_S2048x11264_S4x4096x11264_2_0_01_1_n_n none xn w) slices_S4x4096x11264_S4x4096x5632_0_0_5632)) Cert.FfnUpRefIdeal.Gen.bitsLt_bf16_f32

end Reference

/-- The reference's normalised rows of the argument arrays of device `c`. -/
abbrev rows (c : Dev nD) : FVec Ideal Cert.FfnUpRefIdeal.S4x4096x2048 .f32 :=
  Cert.Proof.NORM (m ((c : Thread nD τ).loc main_arg0)) (m ((c : Thread nD τ).loc main_arg1))
    (m ((c : Thread nD τ).loc main_arg2)) (m ((c : Thread nD τ).loc main_arg3))

/-- What the result array of device `c` is shown to hold: the reference's term of the argument arrays. -/
abbrev result (c : Dev nD) : Buf (Elt Ideal) ((c : Thread nD τ).loc main_v2) :=
  GATED (rows m c) (m ((c : Thread nD τ).loc main_arg4))

/-- The block index of every window at every grid point: batch `t / 44`, row tile `t / 11 % 4`, column tile `t % 11`
    (the second half of the weight matrix starts 11 tiles further). -/
theorem idx : ∀ t : Fin cfg0.N,
    win0_0.index t = ![t.val / 44, t.val / 11 % 4, 0] ∧ win0_1.index t = ![0, 0]
    ∧ win0_2.index t = ![t.val / 44, 0, 0] ∧ win0_3.index t = ![t.val / 44, 0, 0]
    ∧ win0_4.index t = ![0, t.val % 11] ∧ win0_5.index t = ![0, t.val % 11 + 11]
    ∧ win0_6.index t = ![t.val / 44, t.val / 11 % 4, t.val % 11] :=
  (by decide +kernel : ∀ t : Fin grid0.N, _)

/-- The grid has 176 points. -/
theorem lt_grid (t : Fin cfg0.N) : t.val < 176 := lt_of_lt_of_eq t.isLt N_0

/-- What the first point of a run stores in the scratch: the reference's normalised rows of the point's row tile. -/
theorem norm_at (c : Dev nD) (t : Fin cfg0.N) (j : S1024x2048.Idx) :
    k0_pay1 (iblk m c 0 t) (iblk m c 1 t) (iblk m c 2 t) (iblk m c 3 t) j
      = rows m c (ix3 ⟨t.val / 44, by have := lt_grid t; omega⟩
          ⟨t.val / 11 % 4 * 1024 + (j 0).val, by have : (j 0).val < 1024 := (j 0).isLt; omega⟩ (j 1)) := by
  pointwise [k0_pay1, rows, Cert.Proof.NORM]
  blk_point [iblk, V, idx t]

/-- What the scratch holds after point `t`: the normalised rows of the point's row tile. -/
theorem scratch (c : Dev nD) (t : Fin cfg0.N) (j : S1024x2048.Idx) :
    (outsAt0 m c t.val t.isLt).2 j
      = rows m c (ix3 ⟨t.val / 44, by have := lt_grid t; omega⟩
          ⟨t.val / 11 % 4 * 1024 + (j 0).val, by have : (j 0).val < 1024 := (j 0).isLt; omega⟩ (j 1)) := by
  rw [Pipeline.eq_of_write_hold_apply (fun n h => (outsAt0 m c n h).2) 11
    (fun t => k0_pay1 (iblk m c 0 t) (iblk m c 1 t) (iblk m c 2 t) (iblk m c 3 t))
    (fun t h j => by rw [outsAt0_A m c t h]; frame_out) (fun t h j => by rw [outsAt0_B m c t h]; rfl) t j, norm_at]
  blk_ext

/-- What a point stores at block index `y`, when the scratch holds the normalised rows of its row tile, is the reference
    at the array index where `y` sits. -/
theorem point (c : Dev nD) (t : Fin cfg0.N) (s : FVec Ideal S1024x2048 .bf16)
    (hs : ∀ j, s j = rows m c (ix3 ⟨t.val / 44, by have := lt_grid t; omega⟩
          ⟨t.val / 11 % 4 * 1024 + (j 0).val, by have : (j 0).val < 1024 := (j 0).isLt; omega⟩ (j 1))) (y) :
    k0_pay2 s (iblk m c 4 t) (iblk m c 5 t) y = result m c (((cfg0.win 6).blk t).view.emb y) := by
  pointwise [k0_pay2, result, GATED, hs, Ideal.logistic]
  blk_point [iblk, V, idx t]

/-- The result array after the run is the reference's term of the argument arrays. -/
theorem final (c : Dev nD) : (dats m 0 c).arrAt 6 cfg0.N = result m c := by
  refine (dats m 0 c).arrAt_eq_of_covers 6 _ (by decide +kernel) fun t _ y => ?_
  blk_simp
  rw [after0_6]
  by_cases h : t.val % 11 = 0
  · rw [outsAt0_A m c t h]; frame_out
    exact point m c t _ (fun j => norm_at m c t j) y
  · rw [outsAt0_B m c t h]; frame_out
    refine point m c t _ (fun j => ?_) y
    have e := scratch m c t j
    rw [outsAt0_B m c t h] at e
    rw [read_unread_whole]
    exact e

end Cert.FfnUpIdeal.Bridge

namespace Cert.Proof.FfnUpClaims

/-- The call runs to its end and leaves its arguments as they were. -/
theorem frame : Cert.quiescent_FfnUp := fun m ρ _ => Cert.FfnUp.Gen.frame m ρ
/-- So does the call over the extended reals. -/
theorem frameIdeal : Cert.quiescent_FfnUpIdeal := fun m ρ _ => Cert.FfnUpIdeal.Gen.frame m ρ
/-- So does the reference over the extended reals. -/
theorem frameRef : Cert.quiescent_FfnUpRefIdeal := fun m ρ _ =>
  (θ_run Cert.FfnUpRefIdeal.defs _ _).mono (fun r h => ⟨fun c => (h c).2,
      Idealize.ShloMosaic.sem_eq_zero_of_no_sems (by decide) r.2⟩)
    (Cert.FfnUpRefIdeal.Value.run (F := Ideal) m ρ)
/-- The idealization rewrites no operation. -/
theorem preserves : Cert.preserves_FfnUp_FfnUpIdeal := trivial

/-- The kernel call and its reference leave the same result array, and both leave their arguments as they were. -/
theorem algebraic : Cert.algebraic_FfnUpIdeal_FfnUpRefIdeal := by
  intro m ρ m' ρ' _ hag
  refine ⟨Cert.FfnUpIdeal.Bridge.result m,
    (θ_run Cert.FfnUpIdeal.defs _ _).mono (fun _ h c => ⟨(h c).1.trans (Cert.FfnUpIdeal.Bridge.final m c), (h c).2⟩)
      (Cert.FfnUpIdeal.Value.run_blocks (F := Ideal) m ρ), ?_⟩
  refine (θ_run Cert.FfnUpRefIdeal.defs _ _).mono (fun _ h c => ⟨(h c).1.trans ?_, (h c).2⟩)
    (Cert.FfnUpRefIdeal.Value.run (F := Ideal) m' ρ')
  unfold Cert.FfnUpRefIdeal.Value.res_main_v24
  rw [(hag c).1, (hag c).2.1, (hag c).2.2.1, (hag c).2.2.2.1, (hag c).2.2.2.2]
  rfl

end Cert.Proof.FfnUpClaims

end
-- ==== Proof.FfnDownValue.lean ====
/-
  The call `ffn_down` (a product with a weight matrix, scaled channel by channel by a gate and added to the
  residual stream) computes its reference. At the ideal instance each grid point stores one block of
  `res + gate * (x · w)`, and the blocks tile the result array, so the array ends holding the reference's term of the
  four arguments. The contraction is not split: one block of the product needs whole rows of `x` and whole columns
  of `w`.
-/
module

public import proofs.«01_k».proof.Defs
public import proofs.«01_k».proof.Proof.Gen.FfnDown.Frame
public import proofs.«01_k».proof.Proof.Gen.FfnDownIdeal.Value
public import proofs.«01_k».proof.Proof.Gen.FfnDownRefIdeal.Run
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnDownIdeal.Bridge

open Cert.FfnDownIdeal Cert.FfnDownIdeal.Gen

variable (m : (ℓ : Loc nD τ sig) → Buf (Elt Ideal) ℓ) (ρ : Dev nD → PrngReg)

/-- The reference's term of its four arguments. -/
abbrev REF (x : FVec Ideal Cert.FfnDownRefIdeal.S4x4096x5632 .bf16) (w : FVec Ideal Cert.FfnDownRefIdeal.S5632x2048 .f32)
    (res : FVec Ideal Cert.FfnDownRefIdeal.S4x4096x2048 .f32) (gate : FVec Ideal Cert.FfnDownRefIdeal.S4x1x2048 .f32) :
    FVec Ideal Cert.FfnDownRefIdeal.S4x4096x2048 .f32 :=
  addf res (mulf (broadcastInDim Cert.FfnDownRefIdeal.S4x4096x2048 ![0, 1, 2] Cert.FfnDownRefIdeal.Gen.bcast_S4x1x2048_S4x4096x2048_0_1_2 gate)
    (Host.dotGeneral Cert.FfnDownRefIdeal.dot_S4x4096x5632_S5632x2048_S4x4096x2048_2_0_01_1_n_n none
      (extf .f32 x Cert.FfnDownRefIdeal.Gen.bitsLt_bf16_f32) w))

/-- What the result array of device `c` is shown to hold: the reference's term of the argument arrays. -/
abbrev result (c : Dev nD) : Buf (Elt Ideal) ((c : Thread nD τ).loc main_v1) :=
  REF (m ((c : Thread nD τ).loc main_arg0)) (m ((c : Thread nD τ).loc main_arg1))
    (m ((c : Thread nD τ).loc main_arg2)) (m ((c : Thread nD τ).loc main_arg3))

/-- The block index of every window at every grid point: batch `t / 16`, row tile `t / 4 % 4`, column tile `t % 4`. -/
theorem idx : ∀ t : Fin cfg0.N,
    win0_0.index t = ![t.val / 16, t.val / 4 % 4, 0] ∧ win0_1.index t = ![0, t.val % 4]
    ∧ win0_2.index t = ![t.val / 16, t.val / 4 % 4, t.val % 4] ∧ win0_3.index t = ![t.val / 16, 0, t.val % 4]
    ∧ win0_4.index t = ![t.val / 16, t.val / 4 % 4, t.val % 4] :=
  (by decide +kernel : ∀ t : Fin grid0.N, _)

/-- What point `t` stores at block index `y` is the reference at the array index where `y` sits. -/
theorem point (c : Dev nD) (t : Fin cfg0.N) (y) :
    k0_pay1 (iblk m c 0 t) (iblk m c 1 t) (iblk m c 2 t) (iblk m c 3 t) y
      = result m c (((cfg0.win 4).blk t).view.emb y) := by
  pointwise [k0_pay1, result, REF]
  blk_point [iblk, V, idx t]

/-- The result array after the run is the reference's term of the argument arrays. -/
theorem final (c : Dev nD) : (dats m 0 c).arrAt 4 cfg0.N = result m c := by
  refine (dats m 0 c).arrAt_eq_of_covers 4 _ (by decide +kernel) fun t _ y => ?_
  blk_simp
  rw [after0_4]; frame_out
  exact point m c t y

end Cert.FfnDownIdeal.Bridge

namespace Cert.Proof.FfnDownClaims

/-- The call runs to its end and leaves its arguments as they were. -/
theorem frame : Cert.quiescent_FfnDown := fun m ρ _ => Cert.FfnDown.Gen.frame m ρ
/-- So does the call over the extended reals. -/
theorem frameIdeal : Cert.quiescent_FfnDownIdeal := fun m ρ _ => Cert.FfnDownIdeal.Gen.frame m ρ
/-- So does the reference over the extended reals. -/
theorem frameRef : Cert.quiescent_FfnDownRefIdeal := fun m ρ _ =>
  (θ_run Cert.FfnDownRefIdeal.defs _ _).mono (fun r h => ⟨fun c => (h c).2,
      Idealize.ShloMosaic.sem_eq_zero_of_no_sems (by decide) r.2⟩)
    (Cert.FfnDownRefIdeal.Value.run (F := Ideal) m ρ)
/-- The idealization rewrites no operation. -/
theorem preserves : Cert.preserves_FfnDown_FfnDownIdeal := trivial

/-- The kernel call and its reference leave the same result array, and both leave their arguments as they were. -/
theorem algebraic : Cert.algebraic_FfnDownIdeal_FfnDownRefIdeal := by
  intro m ρ m' ρ' _ hag
  refine ⟨Cert.FfnDownIdeal.Bridge.result m,
    (θ_run Cert.FfnDownIdeal.defs _ _).mono (fun _ h c => ⟨(h c).1.trans (Cert.FfnDownIdeal.Bridge.final m c), (h c).2⟩)
      (Cert.FfnDownIdeal.Value.run_blocks (F := Ideal) m ρ), ?_⟩
  refine (θ_run Cert.FfnDownRefIdeal.defs _ _).mono (fun _ h c => ⟨(h c).1.trans ?_, (h c).2⟩)
    (Cert.FfnDownRefIdeal.Value.run (F := Ideal) m' ρ')
  rw [(hag c).1, (hag c).2.1, (hag c).2.2.1, (hag c).2.2.2]

end Cert.Proof.FfnDownClaims

end
-- ==== Proof.InProjValue.lean ====
/-
  The call `in_proj` (root-mean-square normalisation, modulation, and one product with the weight matrix of all the
  input projections) computes its reference. The kernel's weight matrix is the argument with its groups of columns in
  another order and 176 zero columns at the end; the reference multiplies first and moves the columns of the product.
  At the first of every run of 19 grid points the kernel stores the normalised, modulated rows in a scratch buffer and
  at the other points of the run it reads them back.
-/
module

public import proofs.«01_k».proof.Defs
public import proofs.«01_k».proof.Proof.Rows
public import proofs.«01_k».proof.Proof.Gen.InProj.Frame
public import proofs.«01_k».proof.Proof.Gen.InProjIdeal.Value
public import proofs.«01_k».proof.Proof.Gen.InProjRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProjIdeal.Bridge

open Cert.InProjIdeal Cert.InProjIdeal.Gen

variable (m : (ℓ : Loc nD τ sig) → Buf (Elt Ideal) ℓ) (ρ : Dev nD → PrngReg)

section Reference

open Cert.InProjRefIdeal Cert.InProjRefIdeal.Gen

/-- The groups of columns of the product in the order the kernel keeps them, and the zero columns after them. -/
abbrev MOVED (y : FVec Ideal S4x4096x4688 .f32) : FVec Ideal S4x4096x4864 .f32 :=
  concatenate S4x4096x4864 2
    [⟨S4x4096x512, extractStridedSlice S4x4096x512 ![0, 0, 0] y slices_S4x4096x4688_S4x4096x512_0_0_0⟩,
     ⟨S4x4096x512, extractStridedSlice S4x4096x512 ![0, 0, 512] y slices_S4x4096x4688_S4x4096x512_0_0_512⟩,
     ⟨S4x4096x1536, extractStridedSlice S4x4096x1536 ![0, 0, 1088] y slices_S4x4096x4688_S4x4096x1536_0_0_1088⟩,
     ⟨S4x4096x1024, extractStridedSlice S4x4096x1024 ![0, 0, 2624] y slices_S4x4096x4688_S4x4096x1024_0_0_2624⟩,
     ⟨S4x4096x512, extractStridedSlice S4x4096x512 ![0, 0, 3648] y slices_S4x4096x4688_S4x4096x512_0_0_3648⟩,
     ⟨S4x4096x512, extractStridedSlice S4x4096x512 ![0, 0, 4160] y slices_S4x4096x4688_S4x4096x512_0_0_4160⟩,
     ⟨S4x4096x64, extractStridedSlice S4x4096x64 ![0, 0, 1024] y slices_S4x4096x4688_S4x4096x64_0_0_1024⟩,
     ⟨S4x4096x16, extractStridedSlice S4x4096x16 ![0, 0, 4672] y slices_S4x4096x4688_S4x4096x16_0_0_4672⟩,
     ⟨S4x4096x176, broadcastInDim S4x4096x176 ![] bcast_S_S4x4096x176 (constant S_ .f32 0x00000000#32)⟩]
    concatenates_S4x4096x512_S4x4096x512_S4x4096x1536_S4x4096x1024_S4x4096x512_S4x4096x512_S4x4096x64_S4x4096x16_S4x4096x176_S4x4096x4864_d2

/-- The reference's product of normalised rows with the weight matrix, its columns moved. -/
abbrev PROJ (xn : FVec Ideal S4x4096x2048 .f32) (w : FVec Ideal S2048x4688 .f32) : FVec Ideal S4x4096x4864 .f32 :=
  MOVED (Host.dotGeneral dot_S4x4096x2048_S2048x4688_S4x4096x4688_2_0_01_1_n_n none xn w)

end Reference

/-- The kernel's weight matrix: the argument's groups of columns in the kernel's order, then 176 zero columns. -/
abbrev WCAT (w : FVec Ideal S2048x4688 .f32) : FVec Ideal S2048x4864 .f32 :=
  concatenate S2048x4864 1
    [⟨S2048x512, extractStridedSlice S2048x512 ![0, 0] w slices_S2048x4688_S2048x512_0_0⟩,
     ⟨S2048x512, extractStridedSlice S2048x512 ![0, 512] w slices_S2048x4688_S2048x512_0_512⟩,
     ⟨S2048x1536, extractStridedSlice S2048x1536 ![0, 1088] w slices_S2048x4688_S2048x1536_0_1088⟩,
     ⟨S2048x1024, extractStridedSlice S2048x1024 ![0, 2624] w slices_S2048x4688_S2048x1024_0_2624⟩,
     ⟨S2048x512, extractStridedSlice S2048x512 ![0, 3648] w slices_S2048x4688_S2048x512_0_3648⟩,
     ⟨S2048x512, extractStridedSlice S2048x512 ![0, 4160] w slices_S2048x4688_S2048x512_0_4160⟩,
     ⟨S2048x64, extractStridedSlice S2048x64 ![0, 1024] w slices_S2048x4688_S2048x64_0_1024⟩,
     ⟨S2048x16, extractStridedSlice S2048x16 ![0, 4672] w slices_S2048x4688_S2048x16_0_4672⟩,
     ⟨S2048x176, broadcastInDim S2048x176 ![] bcast_S_S2048x176 (constant S_ .f32 0x00000000#32)⟩]
    concatenates_S2048x512_S2048x512_S2048x1536_S2048x1024_S2048x512_S2048x512_S2048x64_S2048x16_S2048x176_S2048x4864_d1

/-- A factor that a condition selects, the same for all terms, is selected outside the sum. -/
theorem sum_mul_dite {n : ℕ} {p : Prop} [Decidable p] (x : Fin n → EReal) (a : p → Fin n → EReal) (b : ¬p → Fin n → EReal) :
    ∑ k, x k * (if h : p then a h k else b h k) = if h : p then ∑ k, x k * a h k else ∑ k, x k * b h k := by
  split <;> rfl

/-- Moving the columns of the product is multiplying by the matrix with its columns moved. -/
theorem proj_at (xn : FVec Ideal S4x4096x2048 .f32) (w : FVec Ideal S2048x4688 .f32) (b : Fin 4) (r : Fin 4096) (j : Fin 4864) :
    PROJ xn w (ix3 b r j) = ∑ k : Fin 2048, xn (ix3 b r k) * WCAT w (ix2 k j) := by
  pointwise [PROJ, MOVED, WCAT]
  simp only [sum_mul_dite, mul_zero, Finset.sum_const_zero]

/-- The reference's normalised rows of the argument arrays of device `c`. -/
abbrev rows (c : Dev nD) : FVec Ideal Cert.InProjRefIdeal.S4x4096x2048 .f32 :=
  Cert.Proof.NORM (m ((c : Thread nD τ).loc main_arg0)) (m ((c : Thread nD τ).loc main_arg1))
    (m ((c : Thread nD τ).loc main_arg2)) (m ((c : Thread nD τ).loc main_arg3))

/-- What the result array of device `c` is shown to hold: the reference's term of the argument arrays. -/
abbrev result (c : Dev nD) : Buf (Elt Ideal) ((c : Thread nD τ).loc main_v12) :=
  PROJ (rows m c) (m ((c : Thread nD τ).loc main_arg4))

/-- The block index of every window at every grid point: batch `t / 76`, row tile `t / 19 % 4`, column tile `t % 19`. -/
theorem idx : ∀ t : Fin cfg0.N,
    win0_0.index t = ![t.val / 76, t.val / 19 % 4, 0] ∧ win0_1.index t = ![0, 0]
    ∧ win0_2.index t = ![t.val / 76, 0, 0] ∧ win0_3.index t = ![t.val / 76, 0, 0]
    ∧ win0_4.index t = ![0, t.val % 19]
    ∧ win0_5.index t = ![t.val / 76, t.val / 19 % 4, t.val % 19] :=
  (by decide +kernel : ∀ t : Fin grid0.N, _)

/-- The grid has 304 points. -/
theorem lt_grid (t : Fin cfg0.N) : t.val < 304 := lt_of_lt_of_eq t.isLt N_0

/-- What the first point of a run stores in the scratch: the reference's normalised rows of the point's row tile. -/
theorem norm_at (c : Dev nD) (t : Fin cfg0.N) (j : S1024x2048.Idx) :
    k0_pay1 (iblk m c 0 t) (iblk m c 1 t) (iblk m c 2 t) (iblk m c 3 t) j
      = rows m c (ix3 ⟨t.val / 76, by have := lt_grid t; omega⟩
          ⟨t.val / 19 % 4 * 1024 + (j 0).val, by have : (j 0).val < 1024 := (j 0).isLt; omega⟩ (j 1)) := by
  pointwise [k0_pay1, rows, Cert.Proof.NORM]
  blk_point [iblk, V, idx t]

/-- What the scratch holds after point `t`: the normalised rows of the point's row tile. -/
theorem scratch (c : Dev nD) (t : Fin cfg0.N) (j : S1024x2048.Idx) :
    (outsAt0 m c t.val t.isLt).2 j
      = rows m c (ix3 ⟨t.val / 76, by have := lt_grid t; omega⟩
          ⟨t.val / 19 % 4 * 1024 + (j 0).val, by have : (j 0).val < 1024 := (j 0).isLt; omega⟩ (j 1)) := by
  rw [Pipeline.eq_of_write_hold_apply (fun n h => (outsAt0 m c n h).2) 19
    (fun t => k0_pay1 (iblk m c 0 t) (iblk m c 1 t) (iblk m c 2 t) (iblk m c 3 t))
    (fun t h j => by rw [outsAt0_A m c t h]; frame_out) (fun t h j => by rw [outsAt0_B m c t h]; rfl) t j, norm_at]
  blk_ext

/-- The block of the kernel's weight matrix at point `t`: the columns of the point's column tile. -/
theorem weights (c : Dev nD) (t : Fin cfg0.N) (k : Fin 2048) (j : Fin 256) :
    (show FVec Ideal S2048x256 .bf16 from iblk m c 4 t) (ix2 k j)
      = WCAT (m ((c : Thread nD τ).loc main_arg4)) (ix2 k ⟨t.val % 19 * 256 + j.val, by omega⟩) := by
  have e : V m c main_v10 = truncf .bf16 (WCAT (m ((c : Thread nD τ).loc main_arg4))) bitsLt_bf16_f32 := by
    unfold V
    after_results_simp <;> (try dsimp only [Matrix.cons_val]) <;> (try after_results_simp) <;> rfl
  show V m c main_v10 (((cfg0.win 4).blk t).view.emb (ix2 k j)) = _
  rw [e]
  show WCAT (m ((c : Thread nD τ).loc main_arg4)) (((cfg0.win 4).blk t).view.emb (ix2 k j)) = _
  blk_ext [idx t]

/-- What a point stores at block index `y`, when the scratch holds the normalised rows of its row tile, is the reference
    at the array index where `y` sits. -/
theorem point (c : Dev nD) (t : Fin cfg0.N) (s : FVec Ideal S1024x2048 .bf16)
    (hs : ∀ j, s j = rows m c (ix3 ⟨t.val / 76, by have := lt_grid t; omega⟩
          ⟨t.val / 19 % 4 * 1024 + (j 0).val, by have : (j 0).val < 1024 := (j 0).isLt; omega⟩ (j 1))) (y) :
    k0_pay2 s (iblk m c 4 t) y = result m c (((cfg0.win 5).blk t).view.emb y) := by
  have e : ∀ (b : FVec Ideal S2048x256 .bf16) (y : S1x1024x256.Idx), k0_pay2 (F := Ideal) s b y
      = (∑ k : Fin 2048, s (ix2 (y 1) k) * b (ix2 k (y 2)) : EReal) := by intro b y; pointwise [k0_pay2]
  rw [e]
  refine Eq.trans ?_ (proj_at (rows m c) (m ((c : Thread nD τ).loc main_arg4)) ⟨t.val / 76, by have := lt_grid t; omega⟩
    ⟨t.val / 19 % 4 * 1024 + (y 1).val, by have : (y 1).val < 1024 := (y 1).isLt; omega⟩
    ⟨t.val % 19 * 256 + (y 2).val, by have : (y 2).val < 256 := (y 2).isLt; omega⟩ |>.symm.trans ?_)
  · exact Finset.sum_congr rfl fun k _ => congrArg₂ _ (hs _) (weights m c t k (y 2))
  · blk_ext [idx t]

/-- The result array after the run is the reference's term of the argument arrays. -/
theorem final (c : Dev nD) : (dats m 0 c).arrAt 5 cfg0.N = result m c := by
  refine (dats m 0 c).arrAt_eq_of_covers 5 _ (by decide +kernel) fun t _ y => ?_
  blk_simp
  rw [after0_5]
  by_cases h : t.val % 19 = 0
  · rw [outsAt0_A m c t h]; frame_out
    exact point m c t _ (fun j => norm_at m c t j) y
  · rw [outsAt0_B m c t h]; frame_out
    refine point m c t _ (fun j => ?_) y
    have e := scratch m c t j
    rw [outsAt0_B m c t h] at e
    rw [read_unread_whole]
    exact e

end Cert.InProjIdeal.Bridge

namespace Cert.Proof.InProjClaims

/-- The call runs to its end and leaves its arguments as they were. -/
theorem frame : Cert.quiescent_InProj := fun m ρ _ => Cert.InProj.Gen.frame m ρ
/-- So does the call over the extended reals. -/
theorem frameIdeal : Cert.quiescent_InProjIdeal := fun m ρ _ => Cert.InProjIdeal.Gen.frame m ρ
/-- So does the reference over the extended reals. -/
theorem frameRef : Cert.quiescent_InProjRefIdeal := fun m ρ _ =>
  (θ_run Cert.InProjRefIdeal.defs _ _).mono (fun r h => ⟨fun c => (h c).2,
      Idealize.ShloMosaic.sem_eq_zero_of_no_sems (by decide) r.2⟩)
    (Cert.InProjRefIdeal.Value.run (F := Ideal) m ρ)
/-- The idealization rewrites no operation. -/
theorem preserves : Cert.preserves_InProj_InProjIdeal := trivial

/-- The kernel call and its reference leave the same result array, and both leave their arguments as they were. -/
theorem algebraic : Cert.algebraic_InProjIdeal_InProjRefIdeal := by
  intro m ρ m' ρ' _ hag
  refine ⟨Cert.InProjIdeal.Bridge.result m,
    (θ_run Cert.InProjIdeal.defs _ _).mono (fun _ h c => ⟨(h c).1.trans (Cert.InProjIdeal.Bridge.final m c), (h c).2⟩)
      (Cert.InProjIdeal.Value.run_blocks (F := Ideal) m ρ), ?_⟩
  refine (θ_run Cert.InProjRefIdeal.defs _ _).mono (fun _ h c => ⟨(h c).1.trans ?_, (h c).2⟩)
    (Cert.InProjRefIdeal.Value.run (F := Ideal) m' ρ')
  unfold Cert.InProjRefIdeal.Value.res_main_v29
  rw [(hag c).1, (hag c).2.1, (hag c).2.2.1, (hag c).2.2.2.1, (hag c).2.2.2.2]
  rfl

end Cert.Proof.InProjClaims

end
-- ==== Proof.OutProjValue.lean ====
/-
  The call `out_proj` (a product with a weight matrix, scaled channel by channel by a gate and added to the
  residual stream) computes its reference. At the ideal instance each grid point stores one block of
  `res + gate * (x · w)`, and the blocks tile the result array, so the array ends holding the reference's term of the
  four arguments. The contraction is not split: one block of the product needs whole rows of `x` and whole columns
  of `w`.
-/
module

public import proofs.«01_k».proof.Defs
public import proofs.«01_k».proof.Proof.Gen.OutProj.Frame
public import proofs.«01_k».proof.Proof.Gen.OutProjIdeal.Value
public import proofs.«01_k».proof.Proof.Gen.OutProjRefIdeal.Run
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutProjIdeal.Bridge

open Cert.OutProjIdeal Cert.OutProjIdeal.Gen

variable (m : (ℓ : Loc nD τ sig) → Buf (Elt Ideal) ℓ) (ρ : Dev nD → PrngReg)

/-- The reference's term of its four arguments. -/
abbrev REF (x : FVec Ideal Cert.OutProjRefIdeal.S4x4096x2048 .bf16) (w : FVec Ideal Cert.OutProjRefIdeal.S2048x2048 .f32)
    (res : FVec Ideal Cert.OutProjRefIdeal.S4x4096x2048 .f32) (gate : FVec Ideal Cert.OutProjRefIdeal.S4x1x2048 .f32) :
    FVec Ideal Cert.OutProjRefIdeal.S4x4096x2048 .f32 :=
  addf res (mulf (broadcastInDim Cert.OutProjRefIdeal.S4x4096x2048 ![0, 1, 2] Cert.OutProjRefIdeal.Gen.bcast_S4x1x2048_S4x4096x2048_0_1_2 gate)
    (Host.dotGeneral Cert.OutProjRefIdeal.dot_S4x4096x2048_S2048x2048_S4x4096x2048_2_0_01_1_n_n none
      (extf .f32 x Cert.OutProjRefIdeal.Gen.bitsLt_bf16_f32) w))

/-- What the result array of device `c` is shown to hold: the reference's term of the argument arrays. -/
abbrev result (c : Dev nD) : Buf (Elt Ideal) ((c : Thread nD τ).loc main_v1) :=
  REF (m ((c : Thread nD τ).loc main_arg0)) (m ((c : Thread nD τ).loc main_arg1))
    (m ((c : Thread nD τ).loc main_arg2)) (m ((c : Thread nD τ).loc main_arg3))

/-- The block index of every window at every grid point: batch `t / 16`, row tile `t / 4 % 4`, column tile `t % 4`. -/
theorem idx : ∀ t : Fin cfg0.N,
    win0_0.index t = ![t.val / 16, t.val / 4 % 4, 0] ∧ win0_1.index t = ![0, t.val % 4]
    ∧ win0_2.index t = ![t.val / 16, t.val / 4 % 4, t.val % 4] ∧ win0_3.index t = ![t.val / 16, 0, t.val % 4]
    ∧ win0_4.index t = ![t.val / 16, t.val / 4 % 4, t.val % 4] :=
  (by decide +kernel : ∀ t : Fin grid0.N, _)

/-- What point `t` stores at block index `y` is the reference at the array index where `y` sits. -/
theorem point (c : Dev nD) (t : Fin cfg0.N) (y) :
    k0_pay1 (iblk m c 0 t) (iblk m c 1 t) (iblk m c 2 t) (iblk m c 3 t) y
      = result m c (((cfg0.win 4).blk t).view.emb y) := by
  pointwise [k0_pay1, result, REF]
  blk_point [iblk, V, idx t]

/-- The result array after the run is the reference's term of the argument arrays. -/
theorem final (c : Dev nD) : (dats m 0 c).arrAt 4 cfg0.N = result m c := by
  refine (dats m 0 c).arrAt_eq_of_covers 4 _ (by decide +kernel) fun t _ y => ?_
  blk_simp
  rw [after0_4]; frame_out
  exact point m c t y

end Cert.OutProjIdeal.Bridge

namespace Cert.Proof.OutProjClaims

/-- The call runs to its end and leaves its arguments as they were. -/
theorem frame : Cert.quiescent_OutProj := fun m ρ _ => Cert.OutProj.Gen.frame m ρ
/-- So does the call over the extended reals. -/
theorem frameIdeal : Cert.quiescent_OutProjIdeal := fun m ρ _ => Cert.OutProjIdeal.Gen.frame m ρ
/-- So does the reference over the extended reals. -/
theorem frameRef : Cert.quiescent_OutProjRefIdeal := fun m ρ _ =>
  (θ_run Cert.OutProjRefIdeal.defs _ _).mono (fun r h => ⟨fun c => (h c).2,
      Idealize.ShloMosaic.sem_eq_zero_of_no_sems (by decide) r.2⟩)
    (Cert.OutProjRefIdeal.Value.run (F := Ideal) m ρ)
/-- The idealization rewrites no operation. -/
theorem preserves : Cert.preserves_OutProj_OutProjIdeal := trivial

/-- The kernel call and its reference leave the same result array, and both leave their arguments as they were. -/
theorem algebraic : Cert.algebraic_OutProjIdeal_OutProjRefIdeal := by
  intro m ρ m' ρ' _ hag
  refine ⟨Cert.OutProjIdeal.Bridge.result m,
    (θ_run Cert.OutProjIdeal.defs _ _).mono (fun _ h c => ⟨(h c).1.trans (Cert.OutProjIdeal.Bridge.final m c), (h c).2⟩)
      (Cert.OutProjIdeal.Value.run_blocks (F := Ideal) m ρ), ?_⟩
  refine (θ_run Cert.OutProjRefIdeal.defs _ _).mono (fun _ h c => ⟨(h c).1.trans ?_, (h c).2⟩)
    (Cert.OutProjRefIdeal.Value.run (F := Ideal) m' ρ')
  rw [(hag c).1, (hag c).2.1, (hag c).2.2.1, (hag c).2.2.2]

end Cert.Proof.OutProjClaims

end
-- ==== Proof.LatentRows.lean ====
/-
  The normalised rows that the two up projections of the attention start from: 512 columns of the input projections,
  divided by their root mean square and scaled by a weight per column. Both kernels compute them with the body of the
  input projection, modulated by a scale and a shift that are zero.
-/
module

public import proofs.«01_k».proof.Defs
public import proofs.«01_k».proof.Proof.Gen.QUpIdeal.Skeleton
public import proofs.«01_k».proof.Proof.Gen.QUpRefIdeal
public import Idealize.ShloMosaic.Lib.Pointwise

@[expose] public section

set_option maxRecDepth 16384

noncomputable section

open Idealize.ShloMosaic Idealize.ShloMosaic.TcCoe Idealize.SL.Sem

namespace Cert.Proof

section Reference

open Cert.QUpRefIdeal Cert.QUpRefIdeal.Gen

/-- The references' normalised rows: `a / sqrt(mean a² + ε) * g`. -/
def LATENTNORM (a : FVec Ideal S4x4096x512 .f32) (g : FVec Ideal S512 .f32) : FVec Ideal S4x4096x512 .f32 :=
  mulf (mulf a
      (broadcastInDim S4x4096x512 ![0, 1, 2] bcast_S4x4096x1_S4x4096x512_0_1_2
        (Host.rsqrt (addf (Host.divf
          (broadcastInDim S4x4096x1 ![0, 1] bcast_S4x4096_S4x4096x1_0_1
            (Host.reduceAdd (mulf a a) (constant S_ .f32 0x00000000#32) reducesTo_S4x4096x512_S4x4096_d2 h_S_))
          (broadcastInDim S4x4096x1 ![] bcast_S_S4x4096x1 (constant S_ .f32 0x44000000#32)))
          (broadcastInDim S4x4096x1 ![] bcast_S_S4x4096x1 (constant S_ .f32 0x358637BD#32))))))
    (broadcastInDim S4x4096x512 ![0, 1, 2] bcast_S1x1x512_S4x4096x512_0_1_2
      (broadcastInDim S1x1x512 ![2] bcast_S512_S1x1x512_2 g))

end Reference

open Cert.QUpIdeal Cert.QUpIdeal.Gen

/-- The weights as one row, at a column. -/
theorem weight_row (g : FVec Ideal S512 .f32) (k : Fin 512) : (shapeCast S1x512 g shapeCasts_S512_S1x512) (ix2 0 k) = g (ix1 k) := by
  pointwise

/-- What a kernel stores in its scratch, from a tile `x` that holds at row `p` the columns of row `r` of batch `b`, the
    weights `g` of the normalisation, and a scale and a shift that are zero: the reference's normalised row. -/
theorem latent_norm_at (a : FVec Ideal Cert.QUpRefIdeal.S4x4096x512 .f32) (g : FVec Ideal Cert.QUpRefIdeal.S512 .f32)
    (x : FVec Ideal S1x1024x512 .f32) (w : FVec Ideal S1x512 .f32) (sc sh : FVec Ideal S1x1x512 .f32)
    (p : Fin 1024) (q : Fin 512) (b : Fin 4) (r : Fin 4096)
    (hx : ∀ k, x (ix3 0 p k) = a (ix3 b r k)) (hw : ∀ k, w (ix2 0 k) = g (ix1 k))
    (hsc : ∀ i, sc i = 0) (hsh : ∀ i, sh i = 0) :
    k0_pay1 (F := Ideal) x w sc sh (ix2 p q) = LATENTNORM a g (ix3 b r q) := by
  have e : k0_pay1 (F := Ideal) x w sc sh (ix2 p q)
      = (x (ix3 0 p q) * Ideal.rsqrt (Ideal.div (∑ k : Fin 512, x (ix3 0 p k) * x (ix3 0 p k))
          (Ideal.ofBits .f32 0x44000000#32) + Ideal.ofBits .f32 0x358637BD#32) * w (ix2 0 q) : EReal) := by
    pointwise [k0_pay1, hsc, hsh]
  refine e.trans ?_
  rw [hw]
  simp only [hx]
  pointwise [LATENTNORM]

end Cert.Proof

end
-- ==== Proof.QUpValue.lean ====
/-
  The call `mla_q_up` (root-mean-square normalisation of the first 512 columns of the input projections, and the
  product with a weight matrix) computes its reference. The kernel body is the one of the input projection, with a
  modulation whose scale and shift are zero. At the first of every run of 3 grid points the kernel stores the
  normalised rows in a scratch buffer and at the other points of the run it reads them back.
-/
module

public import proofs.«01_k».proof.Defs
public import proofs.«01_k».proof.Proof.LatentRows
public import proofs.«01_k».proof.Proof.Gen.QUp.Frame
public import proofs.«01_k».proof.Proof.Gen.QUpIdeal.Value
public import proofs.«01_k».proof.Proof.Gen.QUpRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QUpIdeal.Bridge

open Cert.QUpIdeal Cert.QUpIdeal.Gen

variable (m : (ℓ : Loc nD τ sig) → Buf (Elt Ideal) ℓ) (ρ : Dev nD → PrngReg)

section Reference

open Cert.QUpRefIdeal Cert.QUpRefIdeal.Gen

/-- The columns of the projections that the call reads: the first 512. -/
abbrev COLUMNS (p : FVec Ideal S4x4096x4864 .f32) : FVec Ideal S4x4096x512 .f32 :=
  extractStridedSlice S4x4096x512 ![0, 0, 0] p slices_S4x4096x4864_S4x4096x512_0_0_0

/-- The reference's product of normalised rows with the weight matrix. -/
abbrev PROJ (xn : FVec Ideal S4x4096x512 .f32) (w : FVec Ideal S512x1536 .f32) : FVec Ideal S4x4096x1536 .f32 :=
  Host.dotGeneral dot_S4x4096x512_S512x1536_S4x4096x1536_2_0_01_1_n_n none xn w

end Reference

/-- The reference's normalised rows of the argument arrays of device `c`. -/
abbrev rows (c : Dev nD) : FVec Ideal Cert.QUpRefIdeal.S4x4096x512 .f32 :=
  Cert.Proof.LATENTNORM (COLUMNS (m ((c : Thread nD τ).loc main_arg0))) (m ((c : Thread nD τ).loc main_arg1))

/-- What the result array of device `c` is shown to hold: the reference's term of the argument arrays. -/
abbrev result (c : Dev nD) : Buf (Elt Ideal) ((c : Thread nD τ).loc main_v3) :=
  PROJ (rows m c) (m ((c : Thread nD τ).loc main_arg2))

/-- The block index of every window at every grid point: batch `t / 12`, row tile `t / 3 % 4`, column tile `t % 3`. -/
theorem idx : ∀ t : Fin cfg0.N,
    win0_0.index t = ![t.val / 12, t.val / 3 % 4, 0] ∧ win0_1.index t = ![0, 0]
    ∧ win0_2.index t = ![t.val / 12, 0, 0] ∧ win0_3.index t = ![t.val / 12, 0, 0]
    ∧ win0_4.index t = ![0, t.val % 3]
    ∧ win0_5.index t = ![t.val / 12, t.val / 3 % 4, t.val % 3] :=
  (by decide +kernel : ∀ t : Fin grid0.N, _)

/-- The grid has 48 points. -/
theorem lt_grid (t : Fin cfg0.N) : t.val < 48 := lt_of_lt_of_eq t.isLt N_0

/-- The block of the projections that a point reads: the 512 columns, at the rows of its row tile. -/
theorem tile (c : Dev nD) (t : Fin cfg0.N) (r : Fin 1024) (k : Fin 512) :
    (show FVec Ideal S1x1024x512 .f32 from X0_0 m c t) (ix3 0 r k)
      = COLUMNS (m ((c : Thread nD τ).loc main_arg0)) (ix3 ⟨t.val / 12, by have := lt_grid t; omega⟩
          ⟨t.val / 3 % 4 * 1024 + r.val, by omega⟩ k) := by
  show X0_0 m c t (ix3 0 r k) = _
  unfold X0_0
  unfold Pipeline.Window.fill
  rw [dif_pos (moved0_0 t (ix3 0 r k))]
  pointwise [COLUMNS]
  blk_ext [iblk, V, idx t]

/-- The array of scales and shifts of the modulation is zero. -/
theorem modulation (c : Dev nD) : ∀ i, (show FVec Ideal S4x1x512 .f32 from V m c main_v0) i = 0 := by
  have e : V m c main_v0 = (broadcastInDim S4x1x512 ![] bcast_S_S4x1x512 (constant S_ .f32 0x00000000#32) : FVec Ideal S4x1x512 .f32) := by
    entry_read; rfl
  intro i
  rw [e]
  pointwise

/-- The weights of the normalisation that a point reads: all of them. -/
theorem weight (c : Dev nD) (t : Fin cfg0.N) (k : Fin 512) :
    (show FVec Ideal S1x512 .f32 from iblk m c 1 t) (ix2 0 k) = m ((c : Thread nD τ).loc main_arg1) (ix1 k) := by
  have e : V m c main_v2 = (shapeCast S1x512 (m ((c : Thread nD τ).loc main_arg1)) shapeCasts_S512_S1x512 : FVec Ideal S1x512 .f32) := by
    entry_read; rfl
  show V m c main_v2 (((cfg0.win 1).blk t).view.emb (ix2 0 k)) = _
  rw [e]
  refine Eq.trans ?_ (Cert.Proof.weight_row _ k)
  blk_ext [idx t]

/-- What the first point of a run stores in the scratch: the reference's normalised rows of the point's row tile. -/
theorem norm_at (c : Dev nD) (t : Fin cfg0.N) (j : S1024x512.Idx) :
    k0_pay1 (X0_0 m c t) (iblk m c 1 t) (iblk m c 2 t) (iblk m c 3 t) j
      = rows m c (ix3 ⟨t.val / 12, by have := lt_grid t; omega⟩
          ⟨t.val / 3 % 4 * 1024 + (j 0).val, by have : (j 0).val < 1024 := (j 0).isLt; omega⟩ (j 1)) :=
  (congrArg _ (eq_ix2 j)).trans <| Cert.Proof.latent_norm_at _ _ _ _ _ _ (j 0) (j 1) _ _ (fun k => tile m c t (j 0) k) (fun k => weight m c t k)
    (fun i => modulation m c (((cfg0.win 2).blk t).view.emb i)) (fun i => modulation m c (((cfg0.win 3).blk t).view.emb i))

/-- What the scratch holds after point `t`: the normalised rows of the point's row tile. -/
theorem scratch (c : Dev nD) (t : Fin cfg0.N) (j : S1024x512.Idx) :
    (outsAt0 m c t.val t.isLt).2 j
      = rows m c (ix3 ⟨t.val / 12, by have := lt_grid t; omega⟩
          ⟨t.val / 3 % 4 * 1024 + (j 0).val, by have : (j 0).val < 1024 := (j 0).isLt; omega⟩ (j 1)) := by
  rw [Pipeline.eq_of_write_hold_apply (fun n h => (outsAt0 m c n h).2) 3
    (fun t => k0_pay1 (X0_0 m c t) (iblk m c 1 t) (iblk m c 2 t) (iblk m c 3 t))
    (fun t h j => by rw [outsAt0_A m c t h]; frame_out) (fun t h j => by rw [outsAt0_B m c t h]; rfl) t j, norm_at]
  blk_ext

/-- What a point stores at block index `y`, when the scratch holds the normalised rows of its row tile, is the reference
    at the array index where `y` sits. -/
theorem point (c : Dev nD) (t : Fin cfg0.N) (s : FVec Ideal S1024x512 .bf16)
    (hs : ∀ j, s j = rows m c (ix3 ⟨t.val / 12, by have := lt_grid t; omega⟩
          ⟨t.val / 3 % 4 * 1024 + (j 0).val, by have : (j 0).val < 1024 := (j 0).isLt; omega⟩ (j 1))) (y) :
    k0_pay2 s (iblk m c 4 t) y = result m c (((cfg0.win 5).blk t).view.emb y) := by
  pointwise [k0_pay2, result, PROJ, hs]
  blk_point [X0_0, iblk, V, idx t]

/-- The result array after the run is the reference's term of the argument arrays. -/
theorem final (c : Dev nD) : (dats m 0 c).arrAt 5 cfg0.N = result m c := by
  refine (dats m 0 c).arrAt_eq_of_covers 5 _ (by decide +kernel) fun t _ y => ?_
  blk_simp
  rw [after0_5]
  by_cases h : t.val % 3 = 0
  · rw [outsAt0_A m c t h]; frame_out
    exact point m c t _ (fun j => norm_at m c t j) y
  · rw [outsAt0_B m c t h]; frame_out
    refine point m c t _ (fun j => ?_) y
    have e := scratch m c t j
    rw [outsAt0_B m c t h] at e
    rw [read_unread_whole]
    exact e

end Cert.QUpIdeal.Bridge

namespace Cert.Proof.QUpClaims

/-- The call runs to its end and leaves its arguments as they were. -/
theorem frame : Cert.quiescent_QUp := fun m ρ _ => Cert.QUp.Gen.frame m ρ
/-- So does the call over the extended reals. -/
theorem frameIdeal : Cert.quiescent_QUpIdeal := fun m ρ _ => Cert.QUpIdeal.Gen.frame m ρ
/-- So does the reference over the extended reals. -/
theorem frameRef : Cert.quiescent_QUpRefIdeal := fun m ρ _ =>
  (θ_run Cert.QUpRefIdeal.defs _ _).mono (fun r h => ⟨fun c => (h c).2,
      Idealize.ShloMosaic.sem_eq_zero_of_no_sems (by decide) r.2⟩)
    (Cert.QUpRefIdeal.Value.run (F := Ideal) m ρ)
/-- The idealization rewrites no operation. -/
theorem preserves : Cert.preserves_QUp_QUpIdeal := trivial

/-- The kernel call and its reference leave the same result array, and both leave their arguments as they were. -/
theorem algebraic : Cert.algebraic_QUpIdeal_QUpRefIdeal := by
  intro m ρ m' ρ' _ hag
  refine ⟨Cert.QUpIdeal.Bridge.result m,
    (θ_run Cert.QUpIdeal.defs _ _).mono (fun _ h c => ⟨(h c).1.trans (Cert.QUpIdeal.Bridge.final m c), (h c).2⟩)
      (Cert.QUpIdeal.Value.run_blocks (F := Ideal) m ρ), ?_⟩
  refine (θ_run Cert.QUpRefIdeal.defs _ _).mono (fun _ h c => ⟨(h c).1.trans ?_, (h c).2⟩)
    (Cert.QUpRefIdeal.Value.run (F := Ideal) m' ρ')
  rw [(hag c).1, (hag c).2.1, (hag c).2.2]
  rfl

end Cert.Proof.QUpClaims

end
-- ==== Proof.KvUpValue.lean ====
/-
  The call `mla_kv_up` (root-mean-square normalisation of the second 512 columns of the input projections, and the
  product with a weight matrix) computes its reference. The kernel body is the one of the input projection, with a
  modulation whose scale and shift are zero. At the first of every run of 4 grid points the kernel stores the
  normalised rows in a scratch buffer and at the other points of the run it reads them back.
-/
module

public import proofs.«01_k».proof.Defs
public import proofs.«01_k».proof.Proof.LatentRows
public import proofs.«01_k».proof.Proof.Gen.KvUp.Frame
public import proofs.«01_k».proof.Proof.Gen.KvUpIdeal.Value
public import proofs.«01_k».proof.Proof.Gen.KvUpRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KvUpIdeal.Bridge

open Cert.KvUpIdeal Cert.KvUpIdeal.Gen

variable (m : (ℓ : Loc nD τ sig) → Buf (Elt Ideal) ℓ) (ρ : Dev nD → PrngReg)

section Reference

open Cert.KvUpRefIdeal Cert.KvUpRefIdeal.Gen

/-- The columns of the projections that the call reads: the second 512. -/
abbrev COLUMNS (p : FVec Ideal S4x4096x4864 .f32) : FVec Ideal S4x4096x512 .f32 :=
  extractStridedSlice S4x4096x512 ![0, 0, 512] p slices_S4x4096x4864_S4x4096x512_0_0_512

/-- The reference's product of normalised rows with the weight matrix. -/
abbrev PROJ (xn : FVec Ideal S4x4096x512 .f32) (w : FVec Ideal S512x2048 .f32) : FVec Ideal S4x4096x2048 .f32 :=
  Host.dotGeneral dot_S4x4096x512_S512x2048_S4x4096x2048_2_0_01_1_n_n none xn w

end Reference

/-- The reference's normalised rows of the argument arrays of device `c`. -/
abbrev rows (c : Dev nD) : FVec Ideal Cert.KvUpRefIdeal.S4x4096x512 .f32 :=
  Cert.Proof.LATENTNORM (COLUMNS (m ((c : Thread nD τ).loc main_arg0))) (m ((c : Thread nD τ).loc main_arg1))

/-- What the result array of device `c` is shown to hold: the reference's term of the argument arrays. -/
abbrev result (c : Dev nD) : Buf (Elt Ideal) ((c : Thread nD τ).loc main_v3) :=
  PROJ (rows m c) (m ((c : Thread nD τ).loc main_arg2))

/-- The block index of every window at every grid point: batch `t / 16`, row tile `t / 4 % 4`, column tile `t % 4`. -/
theorem idx : ∀ t : Fin cfg0.N,
    win0_0.index t = ![t.val / 16, t.val / 4 % 4, 1] ∧ win0_1.index t = ![0, 0]
    ∧ win0_2.index t = ![t.val / 16, 0, 0] ∧ win0_3.index t = ![t.val / 16, 0, 0]
    ∧ win0_4.index t = ![0, t.val % 4]
    ∧ win0_5.index t = ![t.val / 16, t.val / 4 % 4, t.val % 4] :=
  (by decide +kernel : ∀ t : Fin grid0.N, _)

/-- The grid has 64 points. -/
theorem lt_grid (t : Fin cfg0.N) : t.val < 64 := lt_of_lt_of_eq t.isLt N_0

/-- The block of the projections that a point reads: the 512 columns, at the rows of its row tile. -/
theorem tile (c : Dev nD) (t : Fin cfg0.N) (r : Fin 1024) (k : Fin 512) :
    (show FVec Ideal S1x1024x512 .f32 from X0_0 m c t) (ix3 0 r k)
      = COLUMNS (m ((c : Thread nD τ).loc main_arg0)) (ix3 ⟨t.val / 16, by have := lt_grid t; omega⟩
          ⟨t.val / 4 % 4 * 1024 + r.val, by omega⟩ k) := by
  show X0_0 m c t (ix3 0 r k) = _
  unfold X0_0
  unfold Pipeline.Window.fill
  rw [dif_pos (moved0_0 t (ix3 0 r k))]
  pointwise [COLUMNS]
  blk_ext [iblk, V, idx t]

/-- The array of scales and shifts of the modulation is zero. -/
theorem modulation (c : Dev nD) : ∀ i, (show FVec Ideal S4x1x512 .f32 from V m c main_v0) i = 0 := by
  have e : V m c main_v0 = (broadcastInDim S4x1x512 ![] bcast_S_S4x1x512 (constant S_ .f32 0x00000000#32) : FVec Ideal S4x1x512 .f32) := by
    entry_read; rfl
  intro i
  rw [e]
  pointwise

/-- The weights of the normalisation that a point reads: all of them. -/
theorem weight (c : Dev nD) (t : Fin cfg0.N) (k : Fin 512) :
    (show FVec Ideal S1x512 .f32 from iblk m c 1 t) (ix2 0 k) = m ((c : Thread nD τ).loc main_arg1) (ix1 k) := by
  have e : V m c main_v2 = (shapeCast S1x512 (m ((c : Thread nD τ).loc main_arg1)) shapeCasts_S512_S1x512 : FVec Ideal S1x512 .f32) := by
    entry_read; rfl
  show V m c main_v2 (((cfg0.win 1).blk t).view.emb (ix2 0 k)) = _
  rw [e]
  refine Eq.trans ?_ (Cert.Proof.weight_row _ k)
  blk_ext [idx t]

/-- What the first point of a run stores in the scratch: the reference's normalised rows of the point's row tile. -/
theorem norm_at (c : Dev nD) (t : Fin cfg0.N) (j : S1024x512.Idx) :
    k0_pay1 (X0_0 m c t) (iblk m c 1 t) (iblk m c 2 t) (iblk m c 3 t) j
      = rows m c (ix3 ⟨t.val / 16, by have := lt_grid t; omega⟩
          ⟨t.val / 4 % 4 * 1024 + (j 0).val, by have : (j 0).val < 1024 := (j 0).isLt; omega⟩ (j 1)) :=
  (congrArg _ (eq_ix2 j)).trans <| Cert.Proof.latent_norm_at _ _ _ _ _ _ (j 0) (j 1) _ _ (fun k => tile m c t (j 0) k) (fun k => weight m c t k)
    (fun i => modulation m c (((cfg0.win 2).blk t).view.emb i)) (fun i => modulation m c (((cfg0.win 3).blk t).view.emb i))

/-- What the scratch holds after point `t`: the normalised rows of the point's row tile. -/
theorem scratch (c : Dev nD) (t : Fin cfg0.N) (j : S1024x512.Idx) :
    (outsAt0 m c t.val t.isLt).2 j
      = rows m c (ix3 ⟨t.val / 16, by have := lt_grid t; omega⟩
          ⟨t.val / 4 % 4 * 1024 + (j 0).val, by have : (j 0).val < 1024 := (j 0).isLt; omega⟩ (j 1)) := by
  rw [Pipeline.eq_of_write_hold_apply (fun n h => (outsAt0 m c n h).2) 4
    (fun t => k0_pay1 (X0_0 m c t) (iblk m c 1 t) (iblk m c 2 t) (iblk m c 3 t))
    (fun t h j => by rw [outsAt0_A m c t h]; frame_out) (fun t h j => by rw [outsAt0_B m c t h]; rfl) t j, norm_at]
  blk_ext

/-- What a point stores at block index `y`, when the scratch holds the normalised rows of its row tile, is the reference
    at the array index where `y` sits. -/
theorem point (c : Dev nD) (t : Fin cfg0.N) (s : FVec Ideal S1024x512 .bf16)
    (hs : ∀ j, s j = rows m c (ix3 ⟨t.val / 16, by have := lt_grid t; omega⟩
          ⟨t.val / 4 % 4 * 1024 + (j 0).val, by have : (j 0).val < 1024 := (j 0).isLt; omega⟩ (j 1))) (y) :
    k0_pay2 s (iblk m c 4 t) y = result m c (((cfg0.win 5).blk t).view.emb y) := by
  pointwise [k0_pay2, result, PROJ, hs]
  blk_point [X0_0, iblk, V, idx t]

/-- The result array after the run is the reference's term of the argument arrays. -/
theorem final (c : Dev nD) : (dats m 0 c).arrAt 5 cfg0.N = result m c := by
  refine (dats m 0 c).arrAt_eq_of_covers 5 _ (by decide +kernel) fun t _ y => ?_
  blk_simp
  rw [after0_5]
  by_cases h : t.val % 4 = 0
  · rw [outsAt0_A m c t h]; frame_out
    exact point m c t _ (fun j => norm_at m c t j) y
  · rw [outsAt0_B m c t h]; frame_out
    refine point m c t _ (fun j => ?_) y
    have e := scratch m c t j
    rw [outsAt0_B m c t h] at e
    rw [read_unread_whole]
    exact e

end Cert.KvUpIdeal.Bridge

namespace Cert.Proof.KvUpClaims

/-- The call runs to its end and leaves its arguments as they were. -/
theorem frame : Cert.quiescent_KvUp := fun m ρ _ => Cert.KvUp.Gen.frame m ρ
/-- So does the call over the extended reals. -/
theorem frameIdeal : Cert.quiescent_KvUpIdeal := fun m ρ _ => Cert.KvUpIdeal.Gen.frame m ρ
/-- So does the reference over the extended reals. -/
theorem frameRef : Cert.quiescent_KvUpRefIdeal := fun m ρ _ =>
  (θ_run Cert.KvUpRefIdeal.defs _ _).mono (fun r h => ⟨fun c => (h c).2,
      Idealize.ShloMosaic.sem_eq_zero_of_no_sems (by decide) r.2⟩)
    (Cert.KvUpRefIdeal.Value.run (F := Ideal) m ρ)
/-- The idealization rewrites no operation. -/
theorem preserves : Cert.preserves_KvUp_KvUpIdeal := trivial

/-- The kernel call and its reference leave the same result array, and both leave their arguments as they were. -/
theorem algebraic : Cert.algebraic_KvUpIdeal_KvUpRefIdeal := by
  intro m ρ m' ρ' _ hag
  refine ⟨Cert.KvUpIdeal.Bridge.result m,
    (θ_run Cert.KvUpIdeal.defs _ _).mono (fun _ h c => ⟨(h c).1.trans (Cert.KvUpIdeal.Bridge.final m c), (h c).2⟩)
      (Cert.KvUpIdeal.Value.run_blocks (F := Ideal) m ρ), ?_⟩
  refine (θ_run Cert.KvUpRefIdeal.defs _ _).mono (fun _ h c => ⟨(h c).1.trans ?_, (h c).2⟩)
    (Cert.KvUpRefIdeal.Value.run (F := Ideal) m' ρ')
  rw [(hag c).1, (hag c).2.1, (hag c).2.2]
  rfl

end Cert.Proof.KvUpClaims

end
-- ==== Proof.AdaValue.lean ====
/-
  The call `ada_modulation` (the modulation of both layers: `silu` of the conditioning rows times a weight matrix, plus
  a bias) computes its reference. The kernel multiplies one array of eight rows: the four latent rows, the context row
  and three zero rows. The reference multiplies the latent rows and the context row separately, layer by layer; the
  last three rows of its result are the bias alone.
-/
module

public import proofs.«01_k».proof.Defs
public import proofs.«01_k».proof.Proof.Gen.Ada.Frame
public import proofs.«01_k».proof.Proof.Gen.AdaIdeal.Value
public import proofs.«01_k».proof.Proof.Gen.AdaRefIdeal.Run
public import Idealize.ShloMosaic.Lib.Pipeline.ValueKit
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdaIdeal.Bridge

open Cert.AdaIdeal Cert.AdaIdeal.Gen

variable (m : (ℓ : Loc nD τ sig) → Buf (Elt Ideal) ℓ) (ρ : Dev nD → PrngReg)

section Reference

open Cert.AdaRefIdeal Cert.AdaRefIdeal.Gen

/-- `silu` of the latent rows. -/
abbrev LATENT (x : FVec Ideal S4x2048 .f32) : FVec Ideal S4x2048 .f32 :=
  mulf x (Host.divf (broadcastInDim S4x2048 ![] Cert.AdaRefIdeal.Gen.bcast_S_S4x2048 (constant S_ .f32 0x3F800000#32))
    (addf (broadcastInDim S4x2048 ![] Cert.AdaRefIdeal.Gen.bcast_S_S4x2048 (constant S_ .f32 0x3F800000#32)) (Host.exp (Host.negf x))))

/-- `silu` of the context row. -/
abbrev CONTEXT (x : FVec Ideal S2048 .f32) : FVec Ideal S2048 .f32 :=
  mulf x (Host.divf (broadcastInDim S2048 ![] Cert.AdaRefIdeal.Gen.bcast_S_S2048 (constant S_ .f32 0x3F800000#32))
    (addf (broadcastInDim S2048 ![] Cert.AdaRefIdeal.Gen.bcast_S_S2048 (constant S_ .f32 0x3F800000#32)) (Host.exp (Host.negf x))))

/-- The reference's eight rows of one layer: the latent rows and the context row times the weight matrix, plus the
    bias, and three rows of the bias. -/
def LAYER (s : FVec Ideal S4x2048 .f32) (s' : FVec Ideal S2048 .f32) (w : FVec Ideal S2048x12288 .f32)
    (b : FVec Ideal S12288 .f32) : FVec Ideal S8x12288 .f32 :=
  concatenate S8x12288 0
    [⟨S4x12288, addf (Host.dotGeneral dot_S4x2048_S2048x12288_S4x12288_1_0_0_1_n_n none s w)
        (broadcastInDim S4x12288 ![0, 1] bcast_S1x12288_S4x12288_0_1 (broadcastInDim S1x12288 ![1] bcast_S12288_S1x12288_1 b))⟩,
     ⟨S1x12288, broadcastInDim S1x12288 ![1] bcast_S12288_S1x12288_1
        (addf (Host.dotGeneral dot_S2048_S2048x12288_S12288_0_0_n_1_n_n none s' w) b)⟩,
     ⟨S3x12288, broadcastInDim S3x12288 ![1] bcast_S12288_S3x12288_1 b⟩]
    concatenates_S4x12288_S1x12288_S3x12288_S8x12288_d0

/-- Two layers' arrays of rows, one after the other. -/
def STACK (a b : FVec Ideal S8x12288 .f32) : FVec Ideal S2x8x12288 .f32 :=
  concatenate S2x8x12288 0
    [⟨S1x8x12288, broadcastInDim S1x8x12288 ![1, 2] bcast_S8x12288_S1x8x12288_1_2 a⟩,
     ⟨S1x8x12288, broadcastInDim S1x8x12288 ![1, 2] bcast_S8x12288_S1x8x12288_1_2 b⟩]
    concatenates_S1x8x12288_S1x8x12288_S2x8x12288_d0

/-- The reference's term of the rows, the weight matrices and the biases. -/
def REF (s : FVec Ideal S4x2048 .f32) (s' : FVec Ideal S2048 .f32) (w : FVec Ideal S2x2048x12288 .f32)
    (b : FVec Ideal S2x12288 .f32) : FVec Ideal S2x8x12288 .f32 :=
  STACK
    (LAYER s s' (shapeCast _ (extractStridedSlice S1x2048x12288 ![0, 0, 0] w slices_S2x2048x12288_S1x2048x12288_0_0_0) shapeCasts_S1x2048x12288_S2048x12288)
      (shapeCast _ (extractStridedSlice S1x12288 ![0, 0] b slices_S2x12288_S1x12288_0_0) shapeCasts_S1x12288_S12288))
    (LAYER s s' (shapeCast _ (extractStridedSlice S1x2048x12288 ![1, 0, 0] w slices_S2x2048x12288_S1x2048x12288_1_0_0) shapeCasts_S1x2048x12288_S2048x12288)
      (shapeCast _ (extractStridedSlice S1x12288 ![1, 0] b slices_S2x12288_S1x12288_1_0) shapeCasts_S1x12288_S12288))

end Reference

/-- The kernel's array of rows: the latent rows, the context row and three zero rows. -/
abbrev ROWS (s : FVec Ideal S4x2048 .f32) (s' : FVec Ideal S2048 .f32) : FVec Ideal S8x2048 .f32 :=
  concatenate S8x2048 0
    [⟨S4x2048, s⟩, ⟨S1x2048, broadcastInDim S1x2048 ![1] bcast_S2048_S1x2048_1 s'⟩,
     ⟨S3x2048, broadcastInDim S3x2048 ![] bcast_S_S3x2048 (constant S_ .f32 0x00000000#32)⟩]
    concatenates_S4x2048_S1x2048_S3x2048_S8x2048_d0

/-- A factor that a condition selects, the same for all terms, is selected outside the sum. -/
theorem sum_dite_mul {n : ℕ} {p : Prop} [Decidable p] (x : Fin n → EReal) (a : p → Fin n → EReal) (b : ¬p → Fin n → EReal) :
    ∑ k, (if h : p then a h k else b h k) * x k = if h : p then ∑ k, a h k * x k else ∑ k, b h k * x k := by
  split <;> rfl

/-- One layer of the reference is the kernel's rows times the layer's matrix, plus the bias. -/
theorem layer_at (s : FVec Ideal S4x2048 .f32) (s' : FVec Ideal S2048 .f32) (w : FVec Ideal Cert.AdaRefIdeal.S2048x12288 .f32)
    (b : FVec Ideal Cert.AdaRefIdeal.S12288 .f32) (r : Fin 8) (j : Fin 12288) :
    LAYER s s' w b (ix2 r j) = (∑ k : Fin 2048, ROWS s s' (ix2 r k) * w (ix2 k j)) + b (ix1 j) := by
  pointwise [LAYER, ROWS]
  simp only [sum_dite_mul, zero_mul, Finset.sum_const_zero]
  split_ifs <;> simp

/-- The reference at a layer, a row and a column. -/
theorem ref_at (s : FVec Ideal S4x2048 .f32) (s' : FVec Ideal S2048 .f32) (w : FVec Ideal S2x2048x12288 .f32)
    (b : FVec Ideal S2x12288 .f32) (l : Fin 2) (r : Fin 8) (j : Fin 12288) :
    REF s s' w b (ix3 l r j) = (∑ k : Fin 2048, ROWS s s' (ix2 r k) * w (ix3 l k j)) + b (ix2 l j) := by
  have e : ∀ a b : FVec Ideal Cert.AdaRefIdeal.S8x12288 .f32, STACK a b (ix3 l r j) = if l = 0 then a (ix2 r j) else b (ix2 r j) := by
    intro a b
    match l with
    | 0 => pointwise [STACK]
    | 1 => pointwise [STACK]
  unfold REF
  rw [e, layer_at, layer_at]
  match l with
  | 0 => pointwise
  | 1 => pointwise

/-- What the result array of device `c` is shown to hold: the reference's term of the argument arrays. -/
abbrev result (c : Dev nD) : Buf (Elt Ideal) ((c : Thread nD τ).loc main_v7) :=
  REF (LATENT (m ((c : Thread nD τ).loc main_arg0))) (CONTEXT (m ((c : Thread nD τ).loc main_arg1)))
    (m ((c : Thread nD τ).loc main_arg2)) (m ((c : Thread nD τ).loc main_arg3))

/-- The block index of every window at every grid point: layer `t / 12`, column tile `t % 12`. -/
theorem idx : ∀ t : Fin cfg0.N,
    win0_0.index t = ![0, 0] ∧ win0_1.index t = ![t.val / 12, 0, t.val % 12]
    ∧ win0_2.index t = ![t.val / 12, 0, t.val % 12] ∧ win0_3.index t = ![t.val / 12, 0, t.val % 12] :=
  (by decide +kernel : ∀ t : Fin grid0.N, _)

/-- The grid has 24 points. -/
theorem lt_grid (t : Fin cfg0.N) : t.val < 24 := lt_of_lt_of_eq t.isLt N_0

/-- The rows a point reads: the kernel's array of rows, whole. -/
theorem rows_at (c : Dev nD) (t : Fin cfg0.N) (r : Fin 8) (k : Fin 2048) :
    (show FVec Ideal S8x2048 .bf16 from iblk m c 0 t) (ix2 r k)
      = ROWS (LATENT (m ((c : Thread nD τ).loc main_arg0))) (CONTEXT (m ((c : Thread nD τ).loc main_arg1))) (ix2 r k) := by
  have e : V m c main_v5 = truncf .bf16
      (ROWS (LATENT (m ((c : Thread nD τ).loc main_arg0))) (CONTEXT (m ((c : Thread nD τ).loc main_arg1)))) bitsLt_bf16_f32 := by
    entry_read; rfl
  show V m c main_v5 (((cfg0.win 0).blk t).view.emb (ix2 r k)) = _
  rw [e]
  show ROWS _ _ (((cfg0.win 0).blk t).view.emb (ix2 r k)) = _
  blk_ext [idx t]

/-- The weights a point reads: its layer's matrix at the columns of its column tile. -/
theorem weights_at (c : Dev nD) (t : Fin cfg0.N) (k : Fin 2048) (j : Fin 1024) :
    (show FVec Ideal S1x2048x1024 .f32 from iblk m c 1 t) (ix3 0 k j)
      = m ((c : Thread nD τ).loc main_arg2) (ix3 ⟨t.val / 12, by have := lt_grid t; omega⟩ k ⟨t.val % 12 * 1024 + j.val, by omega⟩) := by
  blk_ext [iblk, V, idx t]

/-- The kernel's array of biases: one row for each layer. -/
abbrev BIAS (b : FVec Ideal S2x12288 .f32) : FVec Ideal S2x1x12288 .f32 := shapeCast S2x1x12288 b shapeCasts_S2x12288_S2x1x12288

/-- The array of biases at an index. -/
theorem bias_read (b : FVec Ideal S2x12288 .f32) (l : Fin 2) (j : Fin 12288) : BIAS b (ix3 l 0 j) = b (ix2 l j) := by
  pointwise [BIAS]

/-- The bias a point reads: its layer's bias at the columns of its column tile. -/
theorem bias_at (c : Dev nD) (t : Fin cfg0.N) (j : Fin 1024) :
    (show FVec Ideal S1x1x1024 .f32 from iblk m c 2 t) (ix3 0 0 j)
      = m ((c : Thread nD τ).loc main_arg3) (ix2 ⟨t.val / 12, by have := lt_grid t; omega⟩ ⟨t.val % 12 * 1024 + j.val, by omega⟩) := by
  have e : V m c main_v6 = BIAS (m ((c : Thread nD τ).loc main_arg3)) := by
    entry_read; rfl
  show V m c main_v6 (((cfg0.win 2).blk t).view.emb (ix3 0 0 j)) = _
  rw [e]
  refine Eq.trans ?_ (bias_read _ _ _)
  blk_ext [idx t]

/-- What point `t` stores at block index `y` is the reference at the array index where `y` sits. -/
theorem point (c : Dev nD) (t : Fin cfg0.N) (y) :
    k0_pay1 (iblk m c 1 t) (iblk m c 0 t) (iblk m c 2 t) y = result m c (((cfg0.win 3).blk t).view.emb y) := by
  have e : ∀ (w : FVec Ideal S1x2048x1024 .f32) (s : FVec Ideal S8x2048 .bf16) (b : FVec Ideal S1x1x1024 .f32) (y : S1x8x1024.Idx),
      k0_pay1 (F := Ideal) w s b y = ((∑ k : Fin 2048, s (ix2 (y 1) k) * w (ix3 0 k (y 2))) + b (ix3 0 0 (y 2)) : EReal) := by
    intro w s b y; pointwise [k0_pay1]
  rw [e]
  refine Eq.trans ?_ (ref_at (LATENT (m ((c : Thread nD τ).loc main_arg0))) (CONTEXT (m ((c : Thread nD τ).loc main_arg1)))
    (m ((c : Thread nD τ).loc main_arg2)) (m ((c : Thread nD τ).loc main_arg3)) ⟨t.val / 12, by have := lt_grid t; omega⟩ (y 1)
    ⟨t.val % 12 * 1024 + (y 2).val, by have : (y 2).val < 1024 := (y 2).isLt; omega⟩ |>.symm.trans ?_)
  · exact congrArg₂ _ (Finset.sum_congr rfl fun k _ => congrArg₂ _ (rows_at m c t _ k) (weights_at m c t k (y 2))) (bias_at m c t (y 2))
  · blk_ext [idx t]

/-- The result array after the run is the reference's term of the argument arrays. -/
theorem final (c : Dev nD) : (dats m 0 c).arrAt 3 cfg0.N = result m c := by
  refine (dats m 0 c).arrAt_eq_of_covers 3 _ (by decide +kernel) fun t _ y => ?_
  blk_simp
  rw [after0_3]; frame_out
  exact point m c t y

end Cert.AdaIdeal.Bridge

namespace Cert.Proof.AdaClaims

/-- The call runs to its end and leaves its arguments as they were. -/
theorem frame : Cert.quiescent_Ada := fun m ρ _ => Cert.Ada.Gen.frame m ρ
/-- So does the call over the extended reals. -/
theorem frameIdeal : Cert.quiescent_AdaIdeal := fun m ρ _ => Cert.AdaIdeal.Gen.frame m ρ
/-- So does the reference over the extended reals. -/
theorem frameRef : Cert.quiescent_AdaRefIdeal := fun m ρ _ =>
  (θ_run Cert.AdaRefIdeal.defs _ _).mono (fun r h => ⟨fun c => (h c).2,
      Idealize.ShloMosaic.sem_eq_zero_of_no_sems (by decide) r.2⟩)
    (Cert.AdaRefIdeal.Value.run (F := Ideal) m ρ)
/-- The idealization rewrites no operation. -/
theorem preserves : Cert.preserves_Ada_AdaIdeal := trivial

/-- The kernel call and its reference leave the same result array, and both leave their arguments as they were. -/
theorem algebraic : Cert.algebraic_AdaIdeal_AdaRefIdeal := by
  intro m ρ m' ρ' _ hag
  refine ⟨Cert.AdaIdeal.Bridge.result m,
    (θ_run Cert.AdaIdeal.defs _ _).mono (fun _ h c => ⟨(h c).1.trans (Cert.AdaIdeal.Bridge.final m c), (h c).2⟩)
      (Cert.AdaIdeal.Value.run_blocks (F := Ideal) m ρ), ?_⟩
  refine (θ_run Cert.AdaRefIdeal.defs _ _).mono (fun _ h c => ⟨(h c).1.trans ?_, (h c).2⟩)
    (Cert.AdaRefIdeal.Value.run (F := Ideal) m' ρ')
  unfold Cert.AdaRefIdeal.Value.res_main_v42
  rw [(hag c).1, (hag c).2.1, (hag c).2.2.1, (hag c).2.2.2]
  rfl

end Cert.Proof.AdaClaims

end
-- ==== Proof.lean ====
/-
  The proof of the certificate's claim: the runs of the eight kernel calls, of their idealizations and of their
  references, that the idealizations change nothing but the one named constant, and that every call computes its
  reference. The proofs of the calls are in their own modules.
-/
module

public import proofs.«01_k».proof.Defs
public import proofs.«01_k».proof.Proof.Gen.Attn
public import proofs.«01_k».proof.Proof.Gen.AttnIdeal
public import proofs.«01_k».proof.Proof.Gen.AttnRefIdeal
public import proofs.«01_k».proof.Proof.Gen.FfnUp
public import proofs.«01_k».proof.Proof.Gen.FfnUpIdeal
public import proofs.«01_k».proof.Proof.Gen.FfnUpRefIdeal
public import proofs.«01_k».proof.Proof.Gen.FfnDown
public import proofs.«01_k».proof.Proof.Gen.FfnDownIdeal
public import proofs.«01_k».proof.Proof.Gen.FfnDownRefIdeal
public import proofs.«01_k».proof.Proof.Gen.InProj
public import proofs.«01_k».proof.Proof.Gen.InProjIdeal
public import proofs.«01_k».proof.Proof.Gen.InProjRefIdeal
public import proofs.«01_k».proof.Proof.Gen.OutProj
public import proofs.«01_k».proof.Proof.Gen.OutProjIdeal
public import proofs.«01_k».proof.Proof.Gen.OutProjRefIdeal
public import proofs.«01_k».proof.Proof.Gen.QUp
public import proofs.«01_k».proof.Proof.Gen.QUpIdeal
public import proofs.«01_k».proof.Proof.Gen.QUpRefIdeal
public import proofs.«01_k».proof.Proof.Gen.KvUp
public import proofs.«01_k».proof.Proof.Gen.KvUpIdeal
public import proofs.«01_k».proof.Proof.Gen.KvUpRefIdeal
public import proofs.«01_k».proof.Proof.Gen.Ada
public import proofs.«01_k».proof.Proof.Gen.AdaIdeal
public import proofs.«01_k».proof.Proof.Gen.AdaRefIdeal
public import proofs.«01_k».proof.Proof.Gen.Pre_finite_qk
public import proofs.«01_k».proof.Proof.AttnValue
public import proofs.«01_k».proof.Proof.FfnUpValue
public import proofs.«01_k».proof.Proof.FfnDownValue
public import proofs.«01_k».proof.Proof.InProjValue
public import proofs.«01_k».proof.Proof.OutProjValue
public import proofs.«01_k».proof.Proof.QUpValue
public import proofs.«01_k».proof.Proof.KvUpValue
public import proofs.«01_k».proof.Proof.AdaValue
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Attn.Gen.facts, Cert.AttnIdeal.Gen.facts, Cert.AttnRefIdeal.Gen.facts,
   Cert.FfnUp.Gen.facts, Cert.FfnUpIdeal.Gen.facts, Cert.FfnUpRefIdeal.Gen.facts,
   Cert.FfnDown.Gen.facts, Cert.FfnDownIdeal.Gen.facts, Cert.FfnDownRefIdeal.Gen.facts,
   Cert.InProj.Gen.facts, Cert.InProjIdeal.Gen.facts, Cert.InProjRefIdeal.Gen.facts,
   Cert.OutProj.Gen.facts, Cert.OutProjIdeal.Gen.facts, Cert.OutProjRefIdeal.Gen.facts,
   Cert.QUp.Gen.facts, Cert.QUpIdeal.Gen.facts, Cert.QUpRefIdeal.Gen.facts,
   Cert.KvUp.Gen.facts, Cert.KvUpIdeal.Gen.facts, Cert.KvUpRefIdeal.Gen.facts,
   Cert.Ada.Gen.facts, Cert.AdaIdeal.Gen.facts, Cert.AdaRefIdeal.Gen.facts,
   Cert.Pre_finite_qk.Gen.facts,
   AttnClaims.frame, AttnClaims.frameIdeal, AttnClaims.frameIdealPre, AttnClaims.frameRef, AttnClaims.frameRefPre,
   FfnUpClaims.frame, FfnUpClaims.frameIdeal, FfnUpClaims.frameRef,
   FfnDownClaims.frame, FfnDownClaims.frameIdeal, FfnDownClaims.frameRef,
   InProjClaims.frame, InProjClaims.frameIdeal, InProjClaims.frameRef,
   OutProjClaims.frame, OutProjClaims.frameIdeal, OutProjClaims.frameRef,
   QUpClaims.frame, QUpClaims.frameIdeal, QUpClaims.frameRef,
   KvUpClaims.frame, KvUpClaims.frameIdeal, KvUpClaims.frameRef,
   AdaClaims.frame, AdaClaims.frameIdeal, AdaClaims.frameRef,
   AttnClaims.preserves, AttnClaims.algebraic,
   FfnUpClaims.preserves, FfnUpClaims.algebraic,
   FfnDownClaims.preserves, FfnDownClaims.algebraic,
   InProjClaims.preserves, InProjClaims.algebraic,
   OutProjClaims.preserves, OutProjClaims.algebraic,
   QUpClaims.preserves, QUpClaims.algebraic,
   KvUpClaims.preserves, KvUpClaims.algebraic,
   AdaClaims.preserves, AdaClaims.algebraic⟩

end Cert.Proof

end
